-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "masked" .f32 0xC1F00000#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 4096, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 4096, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .f32) (main_arg1 : FVec F S512x256 .f32) (main_arg2 : FVec F S2x4096x4x64 .f32) (main_arg3 : FVec F S2x4096x4x64 .f32) (main_arg4 : FVec F S256x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .f32 := Host.absf main_arg2
  let main_cst_2 : FVec F S_ .f32 := constant S_ .f32 0x7F800000#32
  let main_v10 : FVec F S2x4096x4x64 .f32 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S16x8x64x256 : Shape := ⟨4, ![16, 8, 64, 256]⟩
abbrev S8x256 : Shape := ⟨2, ![8, 256]⟩
abbrev S8x64x256 : Shape := ⟨3, ![8, 64, 256]⟩
abbrev S15 : Shape := ⟨1, ![15]⟩
abbrev S15x2 : Shape := ⟨2, ![15, 2]⟩
abbrev S_ : Shape := ⟨0, ![]⟩
abbrev S2x4x64x256 : Shape := ⟨4, ![2, 4, 64, 256]⟩
abbrev S1x8x64x256 : Shape := ⟨4, ![1, 8, 64, 256]⟩
abbrev S1 : Shape := ⟨1, ![1]⟩
abbrev S1x1 : Shape := ⟨2, ![1, 1]⟩
abbrev S1x4x64x256 : Shape := ⟨4, ![1, 4, 64, 256]⟩
abbrev S4x64x256 : Shape := ⟨3, ![4, 64, 256]⟩
abbrev S2x256x256 : Shape := ⟨3, ![2, 256, 256]⟩
abbrev S2x4x256x64 : Shape := ⟨4, ![2, 4, 256, 64]⟩
abbrev S8x256x64 : Shape := ⟨3, ![8, 256, 64]⟩
abbrev S256x256 : Shape := ⟨2, ![256, 256]⟩
abbrev S8x256x256 : Shape := ⟨3, ![8, 256, 256]⟩
abbrev S1x256x256 : Shape := ⟨3, ![1, 256, 256]⟩
abbrev S8x1x256 : Shape := ⟨3, ![8, 1, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S16x8x64x256, .fp8e4m3⟩
  | .local _ .vmem, ⟨7, _⟩ => ⟨S16x8x64x256, .bf16⟩
  | .local _ .vmem, ⟨8, _⟩ => ⟨S8x256, .f32⟩
  | .local _ .vmem, ⟨9, _⟩ => ⟨S8x64x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  (ofTc nBuf bufTy 1 96 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v29 : BitVec 32 := Scalar.muli v7 c1_i32_29
  let v30 : BitVec 32 := Scalar.addi c0_i32_30 v29
  v30.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_43 : BitVec 32 := 1#32
  let v39 : BitVec 32 := Scalar.muli v7 c1_i32_43
  let v40 : BitVec 32 := Scalar.addi c0_i32_44 v39
  v40.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_57 : BitVec 32 := 1#32
  let v49 : BitVec 32 := Scalar.muli v7 c1_i32_57
  let v50 : BitVec 32 := Scalar.addi c0_i32_58 v49
  v50.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_128 : BitVec 32 := 1#32
  let v164 : BitVec 32 := Scalar.muli v7 c1_i32_128
  let v165 : BitVec 32 := Scalar.addi c0_i32_129 v164
  v165.toNat
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_156 : BitVec 32 := 1#32
  let v182 : BitVec 32 := Scalar.muli v7 c1_i32_156
  let v183 : BitVec 32 := Scalar.addi c0_i32_157 v182
  v183.toNat
def k0_dev8 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_184 : BitVec 32 := 1#32
  let v200 : BitVec 32 := Scalar.muli v7 c1_i32_184
  let v201 : BitVec 32 := Scalar.addi c0_i32_185 v200
  v201.toNat
def k0_dev9 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_209 : BitVec 32 := 1#32
  let v221 : BitVec 32 := Scalar.muli v7 c1_i32_209
  let v222 : BitVec 32 := Scalar.addi c0_i32_210 v221
  v222.toNat
def k0_dev10 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_237 : BitVec 32 := 1#32
  let v239 : BitVec 32 := Scalar.muli v7 c1_i32_237
  let v240 : BitVec 32 := Scalar.addi c0_i32_238 v239
  v240.toNat
def k0_dev11 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_265 : BitVec 32 := 1#32
  let v257 : BitVec 32 := Scalar.muli v7 c1_i32_265
  let v258 : BitVec 32 := Scalar.addi c0_i32_266 v257
  v258.toNat
def k0_dev12 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_291 : BitVec 32 := 1#32
  let v278 : BitVec 32 := Scalar.muli v7 c1_i32_291
  let v279 : BitVec 32 := Scalar.addi c0_i32_292 v278
  v279.toNat
def k0_dev13 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_319 : BitVec 32 := 1#32
  let v296 : BitVec 32 := Scalar.muli v7 c1_i32_319
  let v297 : BitVec 32 := Scalar.addi c0_i32_320 v296
  v297.toNat
def k0_dev14 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_347 : BitVec 32 := 1#32
  let v314 : BitVec 32 := Scalar.muli v7 c1_i32_347
  let v315 : BitVec 32 := Scalar.addi c0_i32_348 v314
  v315.toNat
def k0_dev15 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_372 : BitVec 32 := 1#32
  let v335 : BitVec 32 := Scalar.muli v7 c1_i32_372
  let v336 : BitVec 32 := Scalar.addi c0_i32_373 v335
  v336.toNat
def k0_dev16 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_400 : BitVec 32 := 1#32
  let v353 : BitVec 32 := Scalar.muli v7 c1_i32_400
  let v354 : BitVec 32 := Scalar.addi c0_i32_401 v353
  v354.toNat
def k0_dev17 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_428 : BitVec 32 := 1#32
  let v371 : BitVec 32 := Scalar.muli v7 c1_i32_428
  let v372 : BitVec 32 := Scalar.addi c0_i32_429 v371
  v372.toNat
def k0_dev18 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_453 : BitVec 32 := 1#32
  let v392 : BitVec 32 := Scalar.muli v7 c1_i32_453
  let v393 : BitVec 32 := Scalar.addi c0_i32_454 v392
  v393.toNat
def k0_dev19 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_481 : BitVec 32 := 1#32
  let v410 : BitVec 32 := Scalar.muli v7 c1_i32_481
  let v411 : BitVec 32 := Scalar.addi c0_i32_482 v410
  v411.toNat
def k0_dev20 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_509 : BitVec 32 := 1#32
  let v428 : BitVec 32 := Scalar.muli v7 c1_i32_509
  let v429 : BitVec 32 := Scalar.addi c0_i32_510 v428
  v429.toNat
def k0_dev21 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_534 : BitVec 32 := 1#32
  let v449 : BitVec 32 := Scalar.muli v7 c1_i32_534
  let v450 : BitVec 32 := Scalar.addi c0_i32_535 v449
  v450.toNat
def k0_dev22 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_562 : BitVec 32 := 1#32
  let v467 : BitVec 32 := Scalar.muli v7 c1_i32_562
  let v468 : BitVec 32 := Scalar.addi c0_i32_563 v467
  v468.toNat
def k0_dev23 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_590 : BitVec 32 := 1#32
  let v485 : BitVec 32 := Scalar.muli v7 c1_i32_590
  let v486 : BitVec 32 := Scalar.addi c0_i32_591 v485
  v486.toNat
def k0_dev24 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_615 : BitVec 32 := 1#32
  let v506 : BitVec 32 := Scalar.muli v7 c1_i32_615
  let v507 : BitVec 32 := Scalar.addi c0_i32_616 v506
  v507.toNat
def k0_dev25 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_643 : BitVec 32 := 1#32
  let v524 : BitVec 32 := Scalar.muli v7 c1_i32_643
  let v525 : BitVec 32 := Scalar.addi c0_i32_644 v524
  v525.toNat
def k0_dev26 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_671 : BitVec 32 := 1#32
  let v542 : BitVec 32 := Scalar.muli v7 c1_i32_671
  let v543 : BitVec 32 := Scalar.addi c0_i32_672 v542
  v543.toNat
def k0_dev27 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_696 : BitVec 32 := 1#32
  let v563 : BitVec 32 := Scalar.muli v7 c1_i32_696
  let v564 : BitVec 32 := Scalar.addi c0_i32_697 v563
  v564.toNat
def k0_dev28 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_724 : BitVec 32 := 1#32
  let v581 : BitVec 32 := Scalar.muli v7 c1_i32_724
  let v582 : BitVec 32 := Scalar.addi c0_i32_725 v581
  v582.toNat
def k0_dev29 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_752 : BitVec 32 := 1#32
  let v599 : BitVec 32 := Scalar.muli v7 c1_i32_752
  let v600 : BitVec 32 := Scalar.addi c0_i32_753 v599
  v600.toNat
def k0_dev30 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_777 : BitVec 32 := 1#32
  let v620 : BitVec 32 := Scalar.muli v7 c1_i32_777
  let v621 : BitVec 32 := Scalar.addi c0_i32_778 v620
  v621.toNat
def k0_dev31 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_805 : BitVec 32 := 1#32
  let v638 : BitVec 32 := Scalar.muli v7 c1_i32_805
  let v639 : BitVec 32 := Scalar.addi c0_i32_806 v638
  v639.toNat
def k0_dev32 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_833 : BitVec 32 := 1#32
  let v656 : BitVec 32 := Scalar.muli v7 c1_i32_833
  let v657 : BitVec 32 := Scalar.addi c0_i32_834 v656
  v657.toNat
def k0_dev33 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_858 : BitVec 32 := 1#32
  let v677 : BitVec 32 := Scalar.muli v7 c1_i32_858
  let v678 : BitVec 32 := Scalar.addi c0_i32_859 v677
  v678.toNat
def k0_dev34 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_886 : BitVec 32 := 1#32
  let v695 : BitVec 32 := Scalar.muli v7 c1_i32_886
  let v696 : BitVec 32 := Scalar.addi c0_i32_887 v695
  v696.toNat
def k0_dev35 (d0 : Dev nD) : Nat :=
  let c0_i32_915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_914 : BitVec 32 := 1#32
  let v713 : BitVec 32 := Scalar.muli v7 c1_i32_914
  let v714 : BitVec 32 := Scalar.addi c0_i32_915 v713
  v714.toNat
def k0_dev36 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_939 : BitVec 32 := 1#32
  let v734 : BitVec 32 := Scalar.muli v7 c1_i32_939
  let v735 : BitVec 32 := Scalar.addi c0_i32_940 v734
  v735.toNat
def k0_dev37 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_967 : BitVec 32 := 1#32
  let v752 : BitVec 32 := Scalar.muli v7 c1_i32_967
  let v753 : BitVec 32 := Scalar.addi c0_i32_968 v752
  v753.toNat
def k0_dev38 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_995 : BitVec 32 := 1#32
  let v770 : BitVec 32 := Scalar.muli v7 c1_i32_995
  let v771 : BitVec 32 := Scalar.addi c0_i32_996 v770
  v771.toNat
def k0_dev39 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1020 : BitVec 32 := 1#32
  let v791 : BitVec 32 := Scalar.muli v7 c1_i32_1020
  let v792 : BitVec 32 := Scalar.addi c0_i32_1021 v791
  v792.toNat
def k0_dev40 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1048 : BitVec 32 := 1#32
  let v809 : BitVec 32 := Scalar.muli v7 c1_i32_1048
  let v810 : BitVec 32 := Scalar.addi c0_i32_1049 v809
  v810.toNat
def k0_dev41 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1076 : BitVec 32 := 1#32
  let v827 : BitVec 32 := Scalar.muli v7 c1_i32_1076
  let v828 : BitVec 32 := Scalar.addi c0_i32_1077 v827
  v828.toNat
def k0_dev42 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1101 : BitVec 32 := 1#32
  let v848 : BitVec 32 := Scalar.muli v7 c1_i32_1101
  let v849 : BitVec 32 := Scalar.addi c0_i32_1102 v848
  v849.toNat
def k0_dev43 (d0 : Dev nD) : Nat :=
  let c0_i32_1130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1129 : BitVec 32 := 1#32
  let v866 : BitVec 32 := Scalar.muli v7 c1_i32_1129
  let v867 : BitVec 32 := Scalar.addi c0_i32_1130 v866
  v867.toNat
def k0_dev44 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1157 : BitVec 32 := 1#32
  let v884 : BitVec 32 := Scalar.muli v7 c1_i32_1157
  let v885 : BitVec 32 := Scalar.addi c0_i32_1158 v884
  v885.toNat
def k0_dev45 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1182 : BitVec 32 := 1#32
  let v905 : BitVec 32 := Scalar.muli v7 c1_i32_1182
  let v906 : BitVec 32 := Scalar.addi c0_i32_1183 v905
  v906.toNat
def k0_dev46 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1210 : BitVec 32 := 1#32
  let v923 : BitVec 32 := Scalar.muli v7 c1_i32_1210
  let v924 : BitVec 32 := Scalar.addi c0_i32_1211 v923
  v924.toNat
def k0_dev47 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1238 : BitVec 32 := 1#32
  let v941 : BitVec 32 := Scalar.muli v7 c1_i32_1238
  let v942 : BitVec 32 := Scalar.addi c0_i32_1239 v941
  v942.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "masked" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x256, .f32⟩
  | .hbm, ⟨2, _⟩ => ⟨S2x4096x4x64, .f32⟩
  | .hbm, ⟨3, _⟩ => ⟨S2x4096x4x64, .f32⟩
  | .hbm, ⟨4, _⟩ => ⟨S256x512, .f32⟩
  | .hbm, ⟨5, _⟩ => ⟨S2x4096x256, .f32⟩
  | .hbm, ⟨6, _⟩ => ⟨S2x4096x4x64, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S2x4x4096x4096, .f32⟩
  | .hbm, ⟨51, _⟩ => ⟨S_, .f32⟩
  | .hbm, ⟨52, _⟩ => ⟨S2x4x4096x4096, .f32⟩
  | .hbm, ⟨53, _⟩ => ⟨S2x4x4096x4096, .f32⟩
  | .hbm, ⟨54, _⟩ => ⟨S1x1x4096x4096, .i1⟩
  | .hbm, ⟨55, _⟩ => ⟨S_, .f32⟩
  | .hbm, ⟨56, _⟩ => ⟨S_, .f32⟩
  | .hbm, ⟨57, _⟩ => ⟨S2x4x4096x4096, .i1⟩
  | .hbm, ⟨58, _⟩ => ⟨S2x4x4096x4096, .f32⟩
  | .hbm, ⟨59, _⟩ => ⟨S2x4x4096x4096, .f32⟩
  | .hbm, ⟨60, _⟩ => ⟨S_, .f32⟩
  | .hbm, ⟨61, _⟩ => ⟨S2x4x4096, .f32⟩
  | .hbm, ⟨62, _⟩ => ⟨S2x4x4096x1, .f32⟩
  | .hbm, ⟨63, _⟩ => ⟨S2x4x4096x4096, .f32⟩
  | .hbm, ⟨64, _⟩ => ⟨S2x4x4096x4096, .f32⟩
  | .hbm, ⟨65, _⟩ => ⟨S2x4x4096x4096, .f32⟩
  | .hbm, ⟨66, _⟩ => ⟨S_, .i1⟩
  | .hbm, ⟨67, _⟩ => ⟨S4096, .i1⟩
  | .hbm, ⟨68, _⟩ => ⟨S1x1x4096x1, .i1⟩
  | .hbm, ⟨69, _⟩ => ⟨S_, .f32⟩
  | .hbm, ⟨70, _⟩ => ⟨S2x4x4096, .f32⟩
  | .hbm, ⟨71, _⟩ => ⟨S2x4x4096x1, .f32⟩
  | .hbm, ⟨72, _⟩ => ⟨S_, .f32⟩
  | .hbm, ⟨73, _⟩ => ⟨S_, .f32⟩
  | .hbm, ⟨74, _⟩ => ⟨S2x4x4096x1, .i1⟩
  | .hbm, ⟨75, _⟩ => ⟨S2x4x4096x1, .f32⟩
  | .hbm, ⟨76, _⟩ => ⟨S2x4x4096x1, .f32⟩
  | .hbm, ⟨77, _⟩ => ⟨S2x4x4096x4096, .f32⟩
  | .hbm, ⟨78, _⟩ => ⟨S2x4x4096x4096, .f32⟩
  | .hbm, ⟨79, _⟩ => ⟨S1x1x4096x1, .i1⟩
  | .hbm, ⟨80, _⟩ => ⟨S_, .f32⟩
  | .hbm, ⟨81, _⟩ => ⟨S_, .f32⟩
  | .hbm, ⟨82, _⟩ => ⟨S2x4x4096x4096, .i1⟩
  | .hbm, ⟨83, _⟩ => ⟨S2x4x4096x4096, .f32⟩
  | .hbm, ⟨84, _⟩ => ⟨S2x4x4096x4096, .f32⟩
  | .hbm, ⟨85, _⟩ => ⟨S2x4x64x4096, .f32⟩
  | .hbm, ⟨86, _⟩ => ⟨S2x4096x4x64, .f32⟩
  | .hbm, ⟨87, _⟩ => ⟨S2x4096x256, .f32⟩
  | .hbm, ⟨88, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Kernel.BodyEq.lean ====
module

public import proofs.«01_k».proof.Proof.Kernel.Steps

@[expose] public section

set_option maxRecDepth 16384

noncomputable section

namespace Cert.Kernel.Pass

open Idealize.ShloMosaic Idealize.ShloMosaic.TcCoe Idealize.ShloMosaic.Tactic
open Idealize.SL Idealize.SL.Sem
open Cert.Kernel.Gen

variable {F : FTy → Type} [FloatOps F]

/-- What the body does once it has read that its device is `c`. -/
def atDevice (p : Pg F PUnit) (c : Dev nD) : Pg F PUnit :=
  match p with
  | .op .deviceId k => k c
  | p => p

/-- At every device the printed statements are the program over hops. -/
theorem atDevice_body (c : Dev nD) : atDevice (body : Pg F PUnit) c = rest c := by
  fin_cases c <;> sl_kernel_rfl

/-- The printed body reads its device and then runs the program over hops. -/
theorem body_eq : (body : Pg F PUnit) = .op .deviceId rest := by
  have h : (body : Pg F PUnit) = .op .deviceId (atDevice body) := by sl_kernel_rfl
  rw [h]
  exact congrArg _ (funext atDevice_body)

end Cert.Kernel.Pass

end
-- ==== Proof.KernelIdeal.Steps.lean ====
module

public import proofs.«01_k».proof.Proof.Gen.KernelIdeal.Skeleton
public import proofs.«01_k».proof.Proof.Gen.KernelIdeal.Points
public import Idealize.ShloMosaic.Lib.Tactic

@[expose] public section

set_option maxRecDepth 16384

noncomputable section

/-!
The body of the kernel as a program over hops: every device keeps sixteen slots for the key blocks and
sixteen for the value blocks, slot `s` holding the block that started `s` places to the left on the
ring. Hop `h` copies slot `h` of a device into slot `h + 1` of its right neighbour. The printed body is
this program at every device.
-/

namespace Cert.KernelIdeal.Pass

open Idealize.ShloMosaic Idealize.ShloMosaic.TcCoe
open Idealize.SL Idealize.SL.Sem
open Cert.KernelIdeal.Gen

variable {F : FTy → Type} [FloatOps F] [Named F]

/-- The right neighbour of a device on the ring of sixteen. -/
def nxt (c : Dev nD) : Dev nD := ⟨(c.val + 1) % 16, Nat.mod_lt _ (by decide)⟩
/-- The left neighbour of a device on the ring of sixteen. -/
def prv (c : Dev nD) : Dev nD := ⟨(c.val + 15) % 16, Nat.mod_lt _ (by decide)⟩

/-! ## Buffers, slots and semaphores -/

abbrev xM : Memref sig .tc .vmem S2x256x512 .f32 := Memref.whole cc0_stg0_0
abbrev wqM : Memref sig .tc .vmem S512x256 .f32 := Memref.whole cc0_stg1_0
abbrev kinM : Memref sig .tc .vmem S2x256x4x64 .f32 := Memref.whole cc0_stg2_0
abbrev vinM : Memref sig .tc .vmem S2x256x4x64 .f32 := Memref.whole cc0_stg3_0
abbrev woM : Memref sig .tc .vmem S256x512 .f32 := Memref.whole cc0_stg4_0
abbrev outM : Memref sig .tc .vmem S2x256x512 .f32 := Memref.whole cc0_stg5_0
abbrev kM : Memref sig .tc .vmem S16x8x64x256 .fp8e4m3 := Memref.whole cc0_scratch0
abbrev vM : Memref sig .tc .vmem S16x8x64x256 .bf16 := Memref.whole cc0_scratch1
abbrev lM : Memref sig .tc .vmem S8x256 .f32 := Memref.whole cc0_scratch2
abbrev aM : Memref sig .tc .vmem S8x64x256 .f32 := Memref.whole cc0_scratch3
abbrev barS : Sem sig := (SemArray.scalar (sig.barrier 0 rfl) : Sems sig S_).sem

theorem slot_inb : ∀ s : Fin 16, ∀ a, (![s.val, 0, 0, 0] : Fin 4 → Nat) a + S1x8x64x256.size a ≤ S16x8x64x256.size a := by decide
theorem half_inb : ∀ (s : Fin 16) (j : Fin 2), ∀ a,
    (![s.val, 4 * j.val, 0, 0] : Fin 4 → Nat) a + S1x4x64x256.size a ≤ S16x8x64x256.size a := by decide
theorem sem1_inb : ∀ h : Fin 15, ∀ a, (![h.val] : Fin 1 → Nat) a + S1.size a ≤ S15.size a := by decide
theorem sem2_inb : ∀ (h : Fin 15) (j : Fin 2), ∀ a, (![h.val, j.val] : Fin 2 → Nat) a + S1x1.size a ≤ S15x2.size a := by
  decide

/-- The rectangle of slot `s`, of all eight heads. -/
abbrev slotR (s : Fin 16) : Rect S16x8x64x256 := Rect.unit (s := S16x8x64x256) ![s.val, 0, 0, 0] S1x8x64x256.size (slot_inb s)
/-- The rectangle of half `j` of slot `s`: four heads. -/
abbrev halfR (s : Fin 16) (j : Fin 2) : Rect S16x8x64x256 :=
  Rect.unit (s := S16x8x64x256) ![s.val, 4 * j.val, 0, 0] S1x4x64x256.size (half_inb s j)

theorem slot_words : ∀ s : Fin 16, (slotR s).WholeWords (EltTy.packing .fp8e4m3) := by decide
theorem half_words : ∀ (s : Fin 16) (j : Fin 2), (halfR s j).WholeWords (EltTy.packing .bf16) := by decide

/-- Slot `s` of the key blocks. -/
abbrev kSlot (s : Fin 16) : Memref sig .tc .vmem S8x64x256 .fp8e4m3 :=
  (kM.slice (slotR s) (fun _ => rfl)).squeeze S8x64x256 squeezes_S1x8x64x256_S8x64x256
/-- Half `j` of slot `s` of the value blocks. -/
abbrev vHalf (s : Fin 16) (j : Fin 2) : Memref sig .tc .vmem S4x64x256 .bf16 :=
  (vM.slice (halfR s j) (fun _ => rfl)).squeeze S4x64x256 squeezes_S1x4x64x256_S4x64x256

abbrev ksS (h : Fin 15) : DmaSem sig := ((cc0_scratch4.slice (Rect.unit (s := S15) ![h.val] S1.size (sem1_inb h))).squeeze S_ squeezes_S1_S_).sem
abbrev krS (h : Fin 15) : DmaSem sig := ((cc0_scratch5.slice (Rect.unit (s := S15) ![h.val] S1.size (sem1_inb h))).squeeze S_ squeezes_S1_S_).sem
abbrev vsS (h : Fin 15) (j : Fin 2) : DmaSem sig :=
  ((cc0_scratch6.slice (Rect.unit (s := S15x2) ![h.val, j.val] S1x1.size (sem2_inb h j))).squeeze S_ squeezes_S1x1_S_).sem
abbrev vrS (h : Fin 15) (j : Fin 2) : DmaSem sig :=
  ((cc0_scratch7.slice (Rect.unit (s := S15x2) ![h.val, j.val] S1x1.size (sem2_inb h j))).squeeze S_ squeezes_S1x1_S_).sem

/-! ## The pieces of the body -/

/-- A kernel's program at the float values `F`. -/
abbrev Pg (F : FTy → Type) := Prog (TpuEff nD τ sig (Elt F) Λ₀ .tc)

theorem kSlot_words (s : Fin 16) : (kSlot s).view.WordExact :=
  ((Memref.isWhole_whole cc0_scratch0).wordExact_slice rfl _ (slot_words s)).reshape _ _
theorem vHalf_words (s : Fin 16) (j : Fin 2) : (vHalf s j).view.WordExact :=
  ((Memref.isWhole_whole cc0_scratch1).wordExact_slice rfl _ (half_words s j)).reshape _ _

/-- Hop `h`'s copy of a key block to the right neighbour. -/
def sendK (c : Dev nD) (h : Fin 15) : Pg F PUnit :=
  Prog.lift (.enqueueDma (kSlot h.castSucc) (.remote (Dev.tc (nxt c)) (kSlot h.succ) (.dma (ksS h))) (.dma (krS h))
    (kSlot_words h.castSucc) (kSlot_words h.succ) ⟨⟨rfl, Or.inl rfl⟩, trivial⟩)
/-- Hop `h`'s copy of half `j` of a value block to the right neighbour. -/
def sendV (c : Dev nD) (h : Fin 15) (j : Fin 2) : Pg F PUnit :=
  Prog.lift (.enqueueDma (vHalf h.castSucc j) (.remote (Dev.tc (nxt c)) (vHalf h.succ j) (.dma (vsS h j))) (.dma (vrS h j))
    (vHalf_words h.castSucc j) (vHalf_words h.succ j) ⟨⟨rfl, Or.inl rfl⟩, trivial⟩)
/-- Wait for the key block hop `h` lands here. -/
def waitRK (h : Fin 15) : Pg F PUnit :=
  Prog.lift (.waitDma2 (krS h) (kSlot h.castSucc) (kSlot h.succ) (kSlot_words h.castSucc) (kSlot_words h.succ))
/-- Wait for half `j` of the value block hop `h` lands here. -/
def waitRV (h : Fin 15) (j : Fin 2) : Pg F PUnit :=
  Prog.lift (.waitDma2 (vrS h j) (vHalf h.castSucc j) (vHalf h.succ j) (vHalf_words h.castSucc j) (vHalf_words h.succ j))
/-- Wait until hop `h`'s own copy of a key block has left. -/
def waitSK (h : Fin 15) : Pg F PUnit :=
  Prog.lift (.waitDma2 (ksS h) (kSlot h.succ) (kSlot h.castSucc) (kSlot_words h.succ) (kSlot_words h.castSucc))
/-- Wait until hop `h`'s own copy of half `j` of a value block has left. -/
def waitSV (h : Fin 15) (j : Fin 2) : Pg F PUnit :=
  Prog.lift (.waitDma2 (vsS h j) (vHalf h.succ j) (vHalf h.castSucc j) (vHalf_words h.succ j) (vHalf_words h.castSucc j))

/-- Read slot `s` of the key blocks. -/
def loadK (s : Fin 16) : Pg F (Vec F S1x8x64x256 .fp8e4m3) :=
  Prog.lift (.load kM (slotR s).toLoadRect (View.loadsAt_vmem h_S1x8x64x256))
/-- Read slot `s` of the value blocks. -/
def loadV (s : Fin 16) : Pg F (Vec F S1x8x64x256 .bf16) :=
  Prog.lift (.load vM (slotR s).toLoadRect (View.loadsAt_vmem h_S1x8x64x256))
/-- Read the running sums of the weights. -/
def loadL : Pg F (Vec F S8x256 .f32) :=
  Prog.lift (.load lM (Rect.unit (s := S8x256) ![0, 0] S8x256.size inb_S8x256_S8x256_0_0).toLoadRect (View.loadsAt_vmem h_S8x256))
/-- Replace the running sums of the weights. -/
def storeL (v : Vec F S8x256 .f32) : Pg F PUnit :=
  Prog.lift (.store lM (Rect.unit (s := S8x256) ![0, 0] S8x256.size inb_S8x256_S8x256_0_0) v Finset.univ
    (View.stores_vmem_bits_univ h_S8x256 rfl) (.inl rfl))
/-- Read the running weighted sums of the values. -/
def loadA : Pg F (Vec F S8x64x256 .f32) :=
  Prog.lift (.load aM (Rect.unit (s := S8x64x256) ![0, 0, 0] S8x64x256.size inb_S8x64x256_S8x64x256_0_0_0).toLoadRect
    (View.loadsAt_vmem h_S8x64x256))
/-- Replace the running weighted sums of the values. -/
def storeA (v : Vec F S8x64x256 .f32) : Pg F PUnit :=
  Prog.lift (.store aM (Rect.unit (s := S8x64x256) ![0, 0, 0] S8x64x256.size inb_S8x64x256_S8x64x256_0_0_0) v Finset.univ
    (View.stores_vmem_bits_univ h_S8x64x256 rfl) (.inl rfl))

/-- The mask of the diagonal block: query row `i` sees key `j` when the group of 64 `j` lies in is not after `i`'s. -/
def mask : IVec S256x256 1 :=
  k0_pay7 (iota .tc S256x256 32 [0] iota_S256x256_d0_w32) (iota .tc S256x256 32 [1] iota_S256x256_d1_w32) 64#32 k0_pay5 k0_pay6
    (Scalar.subi (Scalar.extui (Scalar.cmpi .sgt 64#32 0#32)) (Scalar.extui (Scalar.cmpi .slt 64#32 0#32)))

/-- Add the device's own block, under the mask. -/
def accOwn (q : FVec F S8x256x64 .bf16) : Pg F PUnit := do
  let k ← loadK 0
  let l ← loadL
  let _ ← loadL
  storeL (k0_pay11 q mask k l)
  let a ← loadA
  let v ← loadV 0
  let _ ← loadA
  storeA (k0_pay12 q mask k a v)

/-- Add the block in slot `s`. -/
def accSlot (q : FVec F S8x256x64 .bf16) (s : Fin 16) : Pg F PUnit := do
  let k ← loadK s
  let l ← loadL
  let _ ← loadL
  storeL (k0_pay14 q k l)
  let a ← loadA
  let v ← loadV s
  let _ ← loadA
  storeA (k0_pay15 q k a v)

/-- Add the block in slot `s` where that block lies before the device's own. -/
def accIf (c : Dev nD) (q : FVec F S8x256x64 .bf16) (s : Fin 16) : Pg F PUnit :=
  if s.val ≤ c.val then accSlot q s else pure ⟨⟩

/-- `f 0`, `f 1`, … in order. -/
def each : (N : Nat) → (Fin N → Pg F PUnit) → Pg F PUnit
  | 0, _ => pure ⟨⟩
  | N + 1, f => do f 0; each N (fun i => f i.succ)

/-- One turn of the ring: each of the three copies passed on as soon as it has landed, then the landed block added. -/
def hop (c : Dev nD) (q : FVec F S8x256x64 .bf16) (i : Fin 14) : Pg F PUnit := do
  waitRK i.castSucc
  sendK c i.succ
  waitRV i.castSucc 0
  sendV c i.succ 0
  waitRV i.castSucc 1
  sendV c i.succ 1
  accIf c q i.succ.castSucc

/-- The last hop's landings, and the block they bring. -/
def lastHop (c : Dev nD) (q : FVec F S8x256x64 .bf16) : Pg F PUnit := do
  waitRK 14
  waitRV 14 0
  waitRV 14 1
  accIf c q 15

/-- Wait for the device's own copies of one hop. -/
def drain (h : Fin 15) : Pg F PUnit := do
  waitSK h
  waitSV h 0
  waitSV h 1

/-- The handshake with both neighbours. -/
def handshake (c : Dev nD) : Pg F PUnit := do
  semSignalWord (prv c) barS 1#32
  semSignalWord (nxt c) barS 1#32
  semWaitWord barS 2#32

/-- The device's own key and value blocks written to slot 0. -/
def fill : Pg F PUnit := do
  let k ← Prog.lift (.load kinM (Rect.unit (s := S2x256x4x64) ![0, 0, 0, 0] S2x256x4x64.size inb_S2x256x4x64_S2x256x4x64_0_0_0_0).toLoadRect
    (View.loadsAt_vmem h_S2x256x4x64))
  let _ ← loadK 0
  Prog.lift (.store kM (Rect.unit (s := S16x8x64x256) ![0, 0, 0, 0] S1x8x64x256.size inb_S16x8x64x256_S1x8x64x256_0_0_0_0) (k0_pay1 k)
    Finset.univ (View.stores_vmem h_S1x8x64x256 ((Memref.isWhole_whole cc0_scratch0).storeExact_slice rfl _
      packedfp8e4m3_S16x8x64x256_S1x8x64x256_0_0_0_0) (fun _ => rfl)) (.inl rfl))
  let v ← Prog.lift (.load vinM (Rect.unit (s := S2x256x4x64) ![0, 0, 0, 0] S2x256x4x64.size inb_S2x256x4x64_S2x256x4x64_0_0_0_0).toLoadRect
    (View.loadsAt_vmem h_S2x256x4x64))
  let _ ← loadV 0
  Prog.lift (.store vM (Rect.unit (s := S16x8x64x256) ![0, 0, 0, 0] S1x8x64x256.size inb_S16x8x64x256_S1x8x64x256_0_0_0_0) (k0_pay3 (k0_pay2 v))
    Finset.univ (View.stores_vmem h_S1x8x64x256 ((Memref.isWhole_whole cc0_scratch1).storeExact_slice rfl _
      packedbf16_S16x8x64x256_S1x8x64x256_0_0_0_0) (fun _ => rfl)) (.inl rfl))

/-- The queries: the device's rows of the input times the query weights. -/
def queries : Pg F (FVec F S8x256x64 .bf16) := do
  let x ← Prog.lift (.load xM (Rect.unit (s := S2x256x512) ![0, 0, 0] S2x256x512.size inb_S2x256x512_S2x256x512_0_0_0).toLoadRect
    (View.loadsAt_vmem h_S2x256x512))
  let w ← Prog.lift (.load wqM (Rect.unit (s := S512x256) ![0, 0] S512x256.size inb_S512x256_S512x256_0_0).toLoadRect
    (View.loadsAt_vmem h_S512x256))
  pure (k0_pay4 x w)

/-- Both running sums set to zero. -/
def clear : Pg F PUnit := do
  let _ ← loadL
  storeL k0_pay8
  let _ ← loadA
  storeA k0_pay9

/-- The quotient of the sums times the output weights, written to the result. -/
def finish : Pg F PUnit := do
  let a ← loadA
  let l ← loadL
  let w ← Prog.lift (.load woM (Rect.unit (s := S256x512) ![0, 0] S256x512.size inb_S256x512_S256x512_0_0).toLoadRect
    (View.loadsAt_vmem h_S256x512))
  let _ ← Prog.lift (.load outM (Rect.unit (s := S2x256x512) ![0, 0, 0] S2x256x512.size inb_S2x256x512_S2x256x512_0_0_0).toLoadRect
    (View.loadsAt_vmem h_S2x256x512))
  Prog.lift (.store outM (Rect.unit (s := S2x256x512) ![0, 0, 0] S2x256x512.size inb_S2x256x512_S2x256x512_0_0_0) (k0_pay58 a l w)
    Finset.univ (View.stores_vmem_bits_univ h_S2x256x512 rfl) (.inl rfl))

/-- The body after the device has read its own place. -/
def rest (c : Dev nD) : Pg F PUnit := do
  handshake c
  fill
  sendK c 0
  sendV c 0 0
  sendV c 0 1
  let q ← queries
  clear
  accOwn q
  each 14 (hop c q)
  lastHop c q
  each 15 drain
  finish

/-- The kernel's body on the pipeline's buffers. -/
abbrev body : Pg F PUnit :=
  cc0_body xM (Memref.isWhole_whole _) wqM (Memref.isWhole_whole _) kinM (Memref.isWhole_whole _) vinM (Memref.isWhole_whole _)
    woM (Memref.isWhole_whole _) outM (Memref.isWhole_whole _) kM (Memref.isWhole_whole _) vM (Memref.isWhole_whole _)
    lM (Memref.isWhole_whole _) aM (Memref.isWhole_whole _) cc0_scratch4 cc0_scratch5 cc0_scratch6 cc0_scratch7

end Cert.KernelIdeal.Pass

end
-- ==== Proof.KernelIdeal.Slots.lean ====
module

public import proofs.«01_k».proof.Proof.KernelIdeal.Steps
public import Idealize.ShloMosaic.Lib.Ring

@[expose] public section

set_option maxRecDepth 16384

noncomputable section

/-!
Where the slots of the two rings lie in their buffers, and what they hold: slot `s` of device `c` holds
the block of the device `s` places to its left.
-/

namespace Cert.KernelIdeal.Pass

open Idealize.ShloMosaic Idealize.ShloMosaic.TcCoe
open Idealize.SL Idealize.SL.Sem
open Cert.KernelIdeal.Gen

variable {F : FTy → Type} [FloatOps F] [Named F]

/-! ## The ring of devices -/

theorem prv_nxt (c : Dev nD) : prv (nxt c) = c := by revert c; decide
theorem nxt_prv (c : Dev nD) : nxt (prv c) = c := by revert c; decide
theorem nxt_ne_prv (c : Dev nD) : nxt c ≠ prv c := by revert c; decide

/-- The ring's rotation. -/
def ring : Dev nD ≃ Dev nD := ⟨nxt, prv, prv_nxt, nxt_prv⟩

/-- The device `s` places to the left of `c`. -/
def back (c : Dev nD) (s : ℕ) : Dev nD := ⟨(c.val + (16 - s % 16)) % 16, Nat.mod_lt _ (by decide)⟩

theorem back_zero (c : Dev nD) : back c 0 = c := by revert c; decide
theorem back_nxt (c : Dev nD) (h : Fin 15) : back (nxt c) h.succ.val = back c h.castSucc.val := by revert c h; decide
/-- A slot not after the device's own place holds the block that many places before it. -/
theorem back_val (c : Dev nD) (s : ℕ) (hs : s ≤ c.val) : (back c s).val = c.val - s := by
  have hc : c.val < 16 := c.isLt
  show (c.val + (16 - s % 16)) % 16 = _
  omega

/-! ## Indices of a slot -/

/-- The place in a slot of an element of the whole buffer: its slot number forgotten. -/
def inSlot (i : S16x8x64x256.Idx) : S1x8x64x256.Idx :=
  fun a => match a with
    | ⟨0, _⟩ => (⟨0, Nat.one_pos⟩ : Fin 1)
    | ⟨1, _⟩ => i 1
    | ⟨2, _⟩ => i 2
    | ⟨3, _⟩ => i 3

theorem slotR_emb_val (s : Fin 16) (z : S1x8x64x256.Idx) (a : Fin 4) :
    ((slotR s).emb z a).val = (![s.val, 0, 0, 0] : Fin 4 → ℕ) a + (z a).val := by
  simp [Rect.emb, Rect.unit]

theorem halfR_emb_val (s : Fin 16) (j : Fin 2) (z : S1x4x64x256.Idx) (a : Fin 4) :
    ((halfR s j).emb z a).val = (![s.val, 4 * j.val, 0, 0] : Fin 4 → ℕ) a + (z a).val := by
  simp [Rect.emb, Rect.unit]

theorem slotR_emb_zero (s : Fin 16) (z : S1x8x64x256.Idx) : ((slotR s).emb z 0).val = s.val := by
  have h : (z 0).val < 1 := (z 0).isLt
  rw [slotR_emb_val]; show s.val + (z 0).val = _; omega
theorem halfR_emb_zero (s : Fin 16) (j : Fin 2) (z : S1x4x64x256.Idx) : ((halfR s j).emb z 0).val = s.val := by
  have h : (z 0).val < 1 := (z 0).isLt
  rw [halfR_emb_val]; show s.val + (z 0).val = _; omega

/-- An element of a slot, its slot number forgotten, is the element's place in the slot. -/
theorem inSlot_slotR (s : Fin 16) (z : S1x8x64x256.Idx) : inSlot ((slotR s).emb z) = z := by
  funext a
  have h : (z 0).val < 1 := (z 0).isLt
  fin_cases a
  · exact Fin.ext (by show 0 = (z 0).val; omega)
  all_goals exact Fin.ext (by refine (slotR_emb_val s z _).trans ?_; exact Nat.zero_add _)

/-- The place in a slot is told by the last three coordinates. -/
theorem inSlot_congr {i i' : S16x8x64x256.Idx} (h1 : i 1 = i' 1) (h2 : i 2 = i' 2) (h3 : i 3 = i' 3) :
    inSlot i = inSlot i' := by
  funext a
  fin_cases a
  · rfl
  · exact h1
  · exact h2
  · exact h3

/-- Two slots' halves place an index alike. -/
theorem inSlot_halfR (s t : Fin 16) (j : Fin 2) (z : S1x4x64x256.Idx) : inSlot ((halfR s j).emb z) = inSlot ((halfR t j).emb z) := by
  exact inSlot_congr (Fin.ext ((halfR_emb_val s j z 1).trans (halfR_emb_val t j z 1).symm))
    (Fin.ext ((halfR_emb_val s j z 2).trans (halfR_emb_val t j z 2).symm))
    (Fin.ext ((halfR_emb_val s j z 3).trans (halfR_emb_val t j z 3).symm))

/-! ## The elements of a slot -/

/-- A slot's elements in the key ring's buffer. -/
abbrev kSet (s : Fin 16) : Finset S16x8x64x256.Idx := (kSlot s).view.set
/-- Half a slot's elements in the value ring's buffer. -/
abbrev vSet (s : Fin 16) (j : Fin 2) : Finset S16x8x64x256.Idx := (vHalf s j).view.set

theorem kSet_eq (s : Fin 16) : kSet s = (slotR s).set := by
  refine (View.set_reshape _ _).trans ?_
  exact View.set_slice_whole cc0_scratch0 (slotR s)
theorem vSet_eq (s : Fin 16) (j : Fin 2) : vSet s j = (halfR s j).set := by
  refine (View.set_reshape _ _).trans ?_
  exact View.set_slice_whole cc0_scratch1 (halfR s j)

theorem mem_kSet {s : Fin 16} {i : S16x8x64x256.Idx} : i ∈ kSet s ↔ (i 0).val = s.val := by
  rw [kSet_eq, Rect.mem_set_unit]
  have h1 : (i 1).val < 8 := (i 1).isLt
  have h2 : (i 2).val < 64 := (i 2).isLt
  have h3 : (i 3).val < 256 := (i 3).isLt
  constructor
  · intro h
    have := h 0
    simp at this
    omega
  · intro h a
    fin_cases a <;> simp <;> omega

theorem mem_vSet {s : Fin 16} {j : Fin 2} {i : S16x8x64x256.Idx} :
    i ∈ vSet s j ↔ (i 0).val = s.val ∧ (i 1).val / 4 = j.val := by
  rw [vSet_eq, Rect.mem_set_unit]
  have h1 : (i 1).val < 8 := (i 1).isLt
  have h2 : (i 2).val < 64 := (i 2).isLt
  have h3 : (i 3).val < 256 := (i 3).isLt
  constructor
  · intro h
    have h0 := h 0
    have h1 := h 1
    simp at h0 h1
    omega
  · intro h a
    fin_cases a <;> simp <;> omega

/-! ## What the slots hold -/

/-- A ring's buffer on device `c`, the blocks of all devices being `B`: slot `s` holds the block of the device `s` places back. -/
def ringF {β : Type} (B : Dev nD → S1x8x64x256.Idx → β) (c : Dev nD) (i : S16x8x64x256.Idx) : β := B (back c (i 0).val) (inSlot i)

theorem ringF_slotR {β : Type} (B : Dev nD → S1x8x64x256.Idx → β) (c : Dev nD) (s : Fin 16) (z : S1x8x64x256.Idx) :
    ringF B c ((slotR s).emb z) = B (back c s.val) z := by
  unfold ringF; rw [slotR_emb_zero, inSlot_slotR]

theorem ringF_halfR {β : Type} (B : Dev nD → S1x8x64x256.Idx → β) (c : Dev nD) (h : Fin 15) (j : Fin 2) (z : S1x4x64x256.Idx) :
    ringF B (nxt c) ((halfR h.succ j).emb z) = ringF B c ((halfR h.castSucc j).emb z) := by
  unfold ringF; rw [halfR_emb_zero, halfR_emb_zero, back_nxt, inSlot_halfR h.succ h.castSucc]

variable (BK : Dev nD → Vec F S1x8x64x256 .fp8e4m3) (BV : Dev nD → Vec F S1x8x64x256 .bf16)

/-- Hop `h`'s landing of a key block: the right neighbour's slot `h + 1` holds what its ring says. -/
theorem landedK (c : Dev nD) (h : Fin 15) (fd : (cc0_scratch0 : Ref sig .tc).ty.Contents (Elt F)) :
    ∀ i ∈ kSet h.succ, (kSlot h.succ).view.write (Elt F) fd ((kSlot h.castSucc).view.read (Elt F) (ringF BK c)) Finset.univ i
      = ringF BK (nxt c) i := by
  intro i hi
  obtain ⟨x, -, rfl⟩ := Finset.mem_map.mp hi
  rw [View.write_emb_of_mem _ _ (Finset.mem_univ _)]
  show ringF BK c ((slotR h.castSucc).emb (Shape.reshapeEquiv _ x)) = ringF BK (nxt c) ((slotR h.succ).emb (Shape.reshapeEquiv _ x))
  rw [ringF_slotR, ringF_slotR, back_nxt]

/-- Hop `h`'s landing of half a value block. -/
theorem landedV (c : Dev nD) (h : Fin 15) (j : Fin 2) (fd : (cc0_scratch1 : Ref sig .tc).ty.Contents (Elt F)) :
    ∀ i ∈ vSet h.succ j, (vHalf h.succ j).view.write (Elt F) fd ((vHalf h.castSucc j).view.read (Elt F) (ringF BV c)) Finset.univ i
      = ringF BV (nxt c) i := by
  intro i hi
  obtain ⟨x, -, rfl⟩ := Finset.mem_map.mp hi
  rw [View.write_emb_of_mem _ _ (Finset.mem_univ _)]
  show ringF BV c ((halfR h.castSucc j).emb (Shape.reshapeEquiv _ x)) = ringF BV (nxt c) ((halfR h.succ j).emb (Shape.reshapeEquiv _ x))
  rw [ringF_halfR]

/-- Reading slot `s` of the key ring. -/
theorem readK (c : Dev nD) (s : Fin 16) :
    kM.view.readAt (Elt F) (slotR s).toLoadRect (ringF BK c) = BK (back c s.val) := by
  funext z
  exact ringF_slotR BK c s z
/-- Reading slot `s` of the value ring. -/
theorem readV (c : Dev nD) (s : Fin 16) :
    vM.view.readAt (Elt F) (slotR s).toLoadRect (ringF BV c) = BV (back c s.val) := by
  funext z
  exact ringF_slotR BV c s z

/-- The device's own block stored to slot 0 of the key ring. -/
theorem storedK (c : Dev nD) (f : (cc0_scratch0 : Ref sig .tc).ty.Contents (Elt F)) :
    ∀ i ∈ kSet 0, (kM.access (slotR 0) : View sig .tc _ _ _).write (Elt F) f (BK c) Finset.univ i = ringF BK c i := by
  intro i hi
  rw [kSet_eq] at hi
  rw [← Rect.map_emb_univ] at hi
  obtain ⟨z, -, rfl⟩ := Finset.mem_map.mp hi
  refine (View.write_emb_of_mem (v := (kM.access (slotR 0) : View sig .tc _ _ _)) _ _ (Finset.mem_univ z)).trans ?_
  refine Eq.trans ?_ (ringF_slotR BK c 0 z).symm
  rw [show back c (0 : Fin 16).val = c from back_zero c]
  rfl
/-- The device's own block stored to slot 0 of the value ring. -/
theorem storedV (c : Dev nD) (f : (cc0_scratch1 : Ref sig .tc).ty.Contents (Elt F)) :
    ∀ i ∈ (slotR 0).set, (vM.access (slotR 0) : View sig .tc _ _ _).write (Elt F) f (BV c) Finset.univ i = ringF BV c i := by
  intro i hi
  rw [← Rect.map_emb_univ] at hi
  obtain ⟨z, -, rfl⟩ := Finset.mem_map.mp hi
  refine (View.write_emb_of_mem (v := (vM.access (slotR 0) : View sig .tc _ _ _)) _ _ (Finset.mem_univ z)).trans ?_
  refine Eq.trans ?_ (ringF_slotR BV c 0 z).symm
  rw [show back c (0 : Fin 16).val = c from back_zero c]
  rfl

/-! ## A buffer is its slots -/

theorem kSet_disjoint (s t : Fin 16) (h : s ≠ t) : Disjoint (kSet s) (kSet t) :=
  Finset.disjoint_left.mpr fun i hi hj => h (Fin.ext (((mem_kSet).mp hi).symm.trans ((mem_kSet).mp hj)))
theorem kSet_cover : Finset.univ.biUnion kSet = Finset.univ :=
  Finset.eq_univ_of_forall fun i => Finset.mem_biUnion.mpr ⟨i 0, Finset.mem_univ _, (mem_kSet).mpr rfl⟩

theorem vSet_disjoint (s t : Fin 16 × Fin 2) (h : s ≠ t) : Disjoint (vSet s.1 s.2) (vSet t.1 t.2) :=
  Finset.disjoint_left.mpr fun i hi hj => h (by
    have h1 := (mem_vSet).mp hi
    have h2 := (mem_vSet).mp hj
    exact Prod.ext (Fin.ext (h1.1.symm.trans h2.1)) (Fin.ext (h1.2.symm.trans h2.2)))
theorem vSet_cover : Finset.univ.biUnion (fun s : Fin 16 × Fin 2 => vSet s.1 s.2) = Finset.univ :=
  Finset.eq_univ_of_forall fun i => Finset.mem_biUnion.mpr ⟨(i 0, ⟨(i 1).val / 4, by have : (i 1).val < 8 := (i 1).isLt; omega⟩), Finset.mem_univ _,
    (mem_vSet).mpr ⟨rfl, rfl⟩⟩
/-- A value slot is its two halves. -/
theorem slot_halves (s : Fin 16) : (slotR s).set = vSet s 0 ∪ vSet s 1 := by
  ext i
  rw [← kSet_eq, mem_kSet, Finset.mem_union, mem_vSet, mem_vSet]
  have : (i 1).val < 8 := (i 1).isLt
  constructor
  · intro h
    by_cases h1 : (i 1).val < 4
    · exact Or.inl ⟨h, by simp; omega⟩
    · exact Or.inr ⟨h, by simp; omega⟩
  · rintro (h | h) <;> exact h.1

end Cert.KernelIdeal.Pass

end
-- ==== Proof.KernelIdeal.Protocol.lean ====
module

public import proofs.«01_k».proof.Proof.KernelIdeal.Slots
public import Idealize.ShloMosaic.Lib.Pipeline.Launch
public import Idealize.ShloMosaic.Lib.Pipeline.Kit
public import Idealize.ShloMosaic.Lib.Rounds

@[expose] public section

set_option maxRecDepth 16384

noncomputable section

/-!
The agreement between the devices. Every device has one barrier semaphore and, for each hop and each of
the three parts a block travels in (the key block; the two halves of the value block), one semaphore for
its own copy having left and one for the neighbour's copy having landed. Each is used once.

* Barrier: the left neighbour's unit carries nothing; the right neighbour's unit carries the permission
  to write into that neighbour's slots 1 to 15.
* Landed: carries the slot written, at what it then holds.
* Left: gives back the share of the slot that was lent to the copy.

A device waits for landing `(h, p)` while it still owes only later landings, so no wait can be circular.
-/

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The part of a block: the key block, or one half of the value block. -/
abbrev Part := Option (Fin 2)
/-- A transfer a device makes: a hop and a part. -/
abbrev Ch := Fin 15 × Part

/-- The place of a part in a hop. -/
def place : Part → ℕ
  | none => 0
  | some j => 1 + j.val
/-- The place of a transfer in the order a device makes them. -/
def ord (ch : Ch) : ℕ := 3 * ch.1.val + place ch.2

theorem place_lt (p : Part) : place p < 3 := by
  rcases p with _ | j
  · exact Nat.succ_pos _
  · have := j.isLt; show 1 + j.val < 3; omega
theorem place_inj {p q : Part} (h : place p = place q) : p = q := by
  rcases p with _ | j <;> rcases q with _ | k <;> simp only [place] at h
  · rfl
  · omega
  · omega
  · exact congrArg some (Fin.ext (by omega))
theorem ord_inj {a b : Ch} (h : ord a = ord b) : a = b := by
  unfold ord at h
  have h1 := place_lt a.2; have h2 := place_lt b.2
  exact Prod.ext (Fin.ext (by omega)) (place_inj (by omega))

/-! ## The semaphores -/

/-- The semaphore of a transfer: `false` its having left, `true` its having landed. -/
def osem : Bool × Ch → SemLoc sig
  | (false, h, none) => .dma (ksS h)
  | (false, h, some j) => .dma (vsS h j)
  | (true, h, none) => .dma (krS h)
  | (true, h, some j) => .dma (vrS h j)

/-- Every semaphore of the agreement: the barrier and the transfers'. -/
abbrev Ck := Option (Bool × Ch)
def csem : Ck → SemLoc sig
  | none => .reg barS
  | some x => osem x

theorem osem_val : ∀ x : Bool × Ch, osem x ≠ .reg barS ∧ ∀ y, osem x = osem y → x = y := by decide +kernel

theorem csem_injective : Function.Injective csem := by
  rintro (_ | x) (_ | y) h
  · rfl
  · exact absurd h.symm (osem_val y).1
  · exact absurd h (osem_val x).1
  · exact congrArg some ((osem_val x).2 y h)

/-- Which semaphore of the agreement a semaphore is. -/
def decode : SemLoc sig → Option Ck := Function.partialInv csem
theorem decode_csem (k : Ck) : decode (csem k) = some k := Function.partialInv_left csem_injective k

abbrev kcell (ck : Dev nD × Ck) : GSem nD τ sig := ((ck.1 : Thread nD τ), csem ck.2)
abbrev barCell (c : Dev nD) : GSem nD τ sig := kcell (c, none)
abbrev sendCell (c : Dev nD) (ch : Ch) : GSem nD τ sig := kcell (c, some (false, ch))
abbrev recvCell (c : Dev nD) (ch : Ch) : GSem nD τ sig := kcell (c, some (true, ch))

theorem kcell_injective : Function.Injective kcell := by
  rintro ⟨c, k⟩ ⟨c', k'⟩ h
  exact Prod.ext (congrArg (fun g : GSem nD τ sig => g.1.1) h) (csem_injective (congrArg Prod.snd h))

/-! ## The pieces of a slot -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The credit of one transfer, by part. -/
def amt : Part → ℕ
  | none => (kSlot 0).view.dmaCredit
  | some _ => (vHalf 0 0).view.dmaCredit
theorem amt_pos (p : Part) : 0 < amt p := by
  rcases p with _ | j
  · exact View.dmaCredit_pos _ (by decide)
  · exact View.dmaCredit_pos _ (by decide)

/-- Part `p` of slot `s` of device `c`, at share `q`, the two rings' buffers holding `fk` and `fv`. -/
def piece (c : Dev nD) (s : Fin 16) (p : Part) (q : PosShare TreeShare)
    (fk : (cc0_scratch0 : Ref sig .tc).ty.Contents (Elt F)) (fv : (cc0_scratch1 : Ref sig .tc).ty.Contents (Elt F)) : sProp 𝕄 :=
  match p with
  | none => (kSlot s).view.loc (c : Thread nD τ) ↦[(kSlot s).view.set]{q} fk
  | some j => (vHalf s j).view.loc (c : Thread nD τ) ↦[(vHalf s j).view.set]{q} fv

instance piece_storable (c : Dev nD) (s : Fin 16) (p : Part) (q : PosShare TreeShare) (fk fv) :
    BI.Storable (upEmb : UEmb _ 𝕄) (piece (F := F) c s p q fk fv) := by
  rcases p with _ | j <;> unfold piece <;> infer_instance

/-- Part `p` of slot `s` of device `c`, at whatever it holds. -/
def anyPiece (c : Dev nD) (s : Fin 16) (p : Part) : sProp 𝕄 := iprop(∃ fk fv, piece c s p fullShare fk fv)

instance anyPiece_storable (c : Dev nD) (s : Fin 16) (p : Part) :
    BI.Storable (upEmb : UEmb _ 𝕄) (anyPiece (F := F) c s p) := by unfold anyPiece; infer_instance

variable (BK : Dev nD → Vec F S1x8x64x256 .fp8e4m3) (BV : Dev nD → Vec F S1x8x64x256 .bf16)

/-- Part `p` of slot `s` of device `c` holding what the ring brings there. -/
def blkPiece (c : Dev nD) (s : Fin 16) (p : Part) (q : PosShare TreeShare) : sProp 𝕄 := piece c s p q (ringF BK c) (ringF BV c)

instance blkPiece_storable (c : Dev nD) (s : Fin 16) (p : Part) (q : PosShare TreeShare) :
    BI.Storable (upEmb : UEmb _ 𝕄) (blkPiece BK BV c s p q) := by unfold blkPiece; infer_instance

/-! ## The schedule -/

/-- What the right neighbour's barrier unit hands device `c`: the neighbour's slots 1 to 15. -/
def barPay (c : Dev nD) : sProp 𝕄 := bigSep Finset.univ fun ch : Ch => anyPiece (nxt c) ch.1.succ ch.2

instance barPay_storable (c : Dev nD) : BI.Storable (upEmb : UEmb _ 𝕄) (barPay (F := F) c) := by unfold barPay; infer_instance

/-- The payload of a duty, by the semaphore it is paid to. -/
def pay (c : Dev nD) (d : Bool) : Ck → sProp 𝕄
  | none => if d then barPay c else iprop(emp)
  | some (false, ch) => blkPiece BK BV c ch.1.castSucc ch.2 fullShare.left
  | some (true, ch) => blkPiece BK BV c ch.1.succ ch.2 fullShare

instance pay_storable (c : Dev nD) (d : Bool) (k : Ck) : BI.Storable (upEmb : UEmb _ 𝕄) (pay BK BV c d k) := by
  rcases k with _ | ⟨_ | _, ch⟩
  · cases d
    · show BI.Storable (upEmb : UEmb _ 𝕄) (iprop(emp) : sProp 𝕄); infer_instance
    · exact barPay_storable c
  · exact blkPiece_storable BK BV c ch.1.castSucc ch.2 fullShare.left
  · exact blkPiece_storable BK BV c ch.1.succ ch.2 fullShare

/-- The duties of a semaphore: both neighbours pay the barrier, one device everything else. -/
def dut : Option Ck → Finset Bool
  | none => ∅
  | some none => Finset.univ
  | some (some _) => {false}
/-- The units of a duty. -/
def units : Option Ck → ℕ
  | some (some (_, ch)) => amt ch.2
  | _ => 1

/-- One round, round 0. -/
def ringRd : Rounds.Schedule (GSem nD τ sig) Bool 𝕄 where
  duties g r := if r = 0 ∧ g.1.2 = .tc then dut (decode g.2) else ∅
  unitless _ := False
  amount g _ _ := units (decode g.2)
  payload g _ d := match decode g.2 with
    | some k => pay BK BV g.1.1 d k
    | none => iprop(emp)
  amount_pos g _ _ _ := by
    rcases decode g.2 with _ | _ | ⟨b, ch⟩
    · exact Nat.one_pos
    · exact Nat.one_pos
    · exact amt_pos ch.2

instance ringRd_payload_storable (g : GSem nD τ sig) (r : ℕ) (d : Bool) :
    BI.Storable (upEmb : UEmb _ 𝕄) ((ringRd BK BV).payload g r d) := by
  show BI.Storable upEmb (match decode g.2 with
    | some k => pay BK BV g.1.1 d k
    | none => iprop(emp))
  rcases decode g.2 with _ | k
  · infer_instance
  · exact pay_storable BK BV g.1.1 d k

section Sched
variable (c : Dev nD) (ch : Ch)

theorem duties_cell (k : Ck) : (ringRd BK BV).duties (kcell (c, k)) 0 = dut (some k) := by
  dsimp only [ringRd]; rw [if_pos ⟨rfl, rfl⟩, decode_csem]
theorem duties_later (g : GSem nD τ sig) : ∀ r, 1 ≤ r → (ringRd BK BV).duties g r = ∅ :=
  fun r hr => by dsimp only [ringRd]; rw [if_neg fun h => by omega]
theorem amount_cell (k : Ck) (d : Bool) : (ringRd BK BV).amount (kcell (c, k)) 0 d = units (some k) := by
  dsimp only [ringRd]; rw [decode_csem]
theorem payload_cell (k : Ck) (d : Bool) : (ringRd BK BV).payload (kcell (c, k)) 0 d = pay BK BV c d k := by
  dsimp only [ringRd]; rw [decode_csem]

theorem expect_bar : (ringRd BK BV).expect (barCell c) 0 = 2 := by
  unfold Schedule.expect Schedule.amountOf
  rw [duties_cell, Finset.sum_congr rfl fun d _ => amount_cell BK BV c none d]; rfl
theorem expect_one (x : Bool × Ch) : (ringRd BK BV).expect (kcell (c, some x)) 0 = amt x.2.2 := by
  unfold Schedule.expect Schedule.amountOf
  rw [duties_cell, dut, Finset.sum_singleton, amount_cell]; rfl

/-- What the barrier's two units bring together. -/
theorem rest_bar : bigSep ((ringRd BK BV).duties (barCell c) 0 \ ∅) (fun d => (ringRd BK BV).payload (barCell c) 0 d) = iprop(emp ∗ barPay c) := by
  rw [Finset.sdiff_empty, duties_cell, dut, bigSep_univ_eq_bigSepL [false, true] (by decide) (by decide), bigSepL_cons_cons, bigSepL_singleton,
    payload_cell, payload_cell]
  rfl
/-- What any other semaphore's one duty brings. -/
theorem rest_one (x : Bool × Ch) : bigSep ((ringRd BK BV).duties (kcell (c, some x)) 0 \ ∅) (fun d => (ringRd BK BV).payload (kcell (c, some x)) 0 d)
    = pay BK BV c false (some x) := by
  rw [Finset.sdiff_empty, duties_cell, dut, bigSep_singleton, payload_cell]

end Sched

/-! ## What a device owes, and the levels -/

/-- The transfers from the `n`-th on. -/
def fromCh (n : ℕ) : Finset Ch := Finset.univ.filter fun ch => n ≤ ord ch
theorem fromCh_ord (ch : Ch) : fromCh (ord ch) = insert ch (fromCh (ord ch + 1)) := by
  ext b
  unfold fromCh
  rw [Finset.mem_insert, Finset.mem_filter, Finset.mem_filter]
  constructor
  · rintro ⟨-, h⟩
    rcases Nat.lt_or_ge (ord ch) (ord b) with h' | h'
    · exact Or.inr ⟨Finset.mem_univ _, h'⟩
    · exact Or.inl (ord_inj (Nat.le_antisymm h' h))
  · rintro (rfl | ⟨-, h⟩)
    · exact ⟨Finset.mem_univ _, le_rfl⟩
    · exact ⟨Finset.mem_univ _, by omega⟩
theorem notMem_fromCh (ch : Ch) : ch ∉ fromCh (ord ch + 1) := fun h => by
  have := (Finset.mem_filter.mp h).2; omega
theorem fromCh_zero : fromCh 0 = Finset.univ := Finset.filter_true_of_mem fun _ _ => Nat.zero_le _
theorem fromCh_end : fromCh 45 = ∅ := Finset.filter_false_of_mem fun ch _ h => by
  have := place_lt ch.2; have := ch.1.isLt; unfold ord at h; omega

/-- The landings device `c` still owes its right neighbour when `n` of its transfers are made. -/
def owedR (c : Dev nD) (n : ℕ) : CellTallies nD τ sig Unit := ∑ ch ∈ fromCh n, tallyAt (recvCell (nxt c) ch) () (amt ch.2)
theorem owedR_ord (c : Dev nD) (ch : Ch) : owedR c (ord ch) = owedR c (ord ch + 1) + tallyAt (recvCell (nxt c) ch) () (amt ch.2) := by
  unfold owedR; rw [fromCh_ord, Finset.sum_insert (notMem_fromCh ch), add_comm]
theorem owedR_end (c : Dev nD) : owedR c 45 = 0 := by unfold owedR; rw [fromCh_end, Finset.sum_empty]

/-- At launch: all of its landings, and both neighbours' barrier units. -/
def O₁ (c : Dev nD) : CellTallies nD τ sig Unit := owedR c 0 + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a semaphore. -/
def rank : Option Ck → ℕ
  | some none => 1
  | some (some (true, ch)) => ord ch + 2
  | _ => 0
def lv (g : GSem nD τ sig) (_ : Unit) : ℕ := rank (decode g.2)

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem owedR_pos {c : Dev nD} {n : ℕ} {g : GSem nD τ sig} {u : Unit} (h : 0 < owedR c n g u) :
    ∃ ch : Ch, n ≤ ord ch ∧ g = recvCell (nxt c) ch := by
  unfold owedR at h
  rw [Finset.sum_apply, Finsupp.finset_sum_apply] at h
  obtain ⟨ch, hm, hp⟩ := Finset.exists_ne_zero_of_sum_ne_zero (Nat.pos_iff_ne_zero.mp h)
  exact ⟨ch, (Finset.mem_filter.mp hm).2, tallyAt_pos (Nat.pos_of_ne_zero hp)⟩

theorem O₀_pos {c : Dev nD} {g : GSem nD τ sig} {u : Unit} (h : 0 < O₀ c g u) :
    ∃ k : Ck, (∃ d : Dev nD, g = kcell (d, k)) ∧ 0 < rank (some k) := by
  unfold O₀ O₁ at h
  rw [Pi.add_apply, Finsupp.add_apply, Pi.add_apply, Finsupp.add_apply] at h
  rcases Nat.eq_zero_or_pos (owedR c 0 g u) with h0 | h0
  · rcases Nat.eq_zero_or_pos (tallyAt (barCell (nxt c)) () 1 g u) with h1 | h1
    · have : 0 < tallyAt (barCell (prv c)) () 1 g u := by omega
      exact ⟨none, ⟨_, tallyAt_pos this⟩, Nat.one_pos⟩
    · exact ⟨none, ⟨_, tallyAt_pos h1⟩, Nat.one_pos⟩
  · obtain ⟨ch, -, hg⟩ := owedR_pos h0
    exact ⟨some (true, ch), ⟨_, hg⟩, Nat.succ_pos _⟩

/-- A wait on a semaphore of level 0 is always allowed. -/
theorem mayWait_low (c : Dev nD) (sm : SemLoc sig) (hq : rank (decode sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by obtain ⟨k, ⟨d, rfl⟩, -⟩ := O₀_pos hg; rw [L_tc]; exact Finset.mem_singleton_self _)
      (fun p hp => by rw [Finset.mem_singleton.mp hp]; exact le_of_eq hq)
      (fun g u hg => by obtain ⟨k, ⟨d, rfl⟩, hk⟩ := O₀_pos hg; show 0 < rank (decode (csem k)); rw [decode_csem]; exact hk)
  · rw [MayWait_zero]; iintro -; iempintro

/-- A wait on a semaphore below everything still owed is allowed. -/
theorem mayWait_owedR (c : Dev nD) (k : Ck) (n : ℕ) (hk : rank (some k) < n + 2) :
    (levAts L lv : sProp 𝕄) ⊢ MayWait (c : Thread nD τ) (csem k) () (owedR c n) :=
  MayOwe.of_cut (L := L) (lev := lv) (n + 1) (fun p hp => by rw [Finset.mem_singleton.mp hp, L_tc]; exact Finset.mem_singleton_self _)
    (fun g u hg => by obtain ⟨ch, -, rfl⟩ := owedR_pos hg; rw [L_tc]; exact Finset.mem_singleton_self _)
    (fun p hp => by
      rw [Finset.mem_singleton.mp hp]; show rank (decode (csem k)) ≤ n + 1; rw [decode_csem]; omega)
    (fun g u hg => by
      obtain ⟨ch, hn, rfl⟩ := owedR_pos hg
      show n + 1 < rank (decode (csem (some (true, ch)))); rw [decode_csem]; show n + 1 < ord ch + 2; omega)

end Cert.KernelIdeal.Pass

end
-- ==== Proof.KernelIdeal.Moves.lean ====
module

public import proofs.«01_k».proof.Proof.KernelIdeal.Protocol

@[expose] public section

set_option maxRecDepth 16384

noncomputable section

/-!
The rules of the single steps between devices: the handshake, making a transfer, waiting for one to land,
waiting for one's own to have left.
-/

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

abbrev 𝒱₀ : Variants := Variants.none

variable (BK : Dev nD → Vec F S1x8x64x256 .fp8e4m3) (BV : Dev nD → Vec F S1x8x64x256 .bf16)

/-- What a program run on device `c` needs for its result to satisfy `Q`. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem Wp_bind {α β : Type} (c : Dev nD) (p : Prog (TpuEff nD τ sig (Elt F) Λ₀ .tc) α) (k : α → Prog (TpuEff nD τ sig (Elt F) Λ₀ .tc) β)
    (Q : β → sProp 𝕄) : Wp c (p >>= k) Q = Wp c p (fun a => Wp c (k a) Q) := wp_bind _ _ _ p k Q

/-- Every semaphore's agreement, at the names `K`, and that its one round has begun. -/
def records (K : Dev nD × Ck → ℕ) : sProp 𝕄 :=
  iprop((bigSep Finset.univ fun ck : Dev nD × Ck => cellInv ER (ringRd BK BV) (K ck) (kcell ck))
    ∗ (bigSep Finset.univ fun ck : Dev nD × Ck => reached ER (kcell ck) 0) ∗ levAts L lv)

instance records_persistent (K : Dev nD × Ck → ℕ) : BI.Persistent (records BK BV K) := by unfold records; infer_instance

variable (K : Dev nD × Ck → ℕ)

theorem inv_at (ck : Dev nD × Ck) : records BK BV K ⊢ cellInv ER (ringRd BK BV) (K ck) (kcell ck) := by
  unfold records
  iintro ⟨H, -⟩
  have h : (bigSep Finset.univ fun ck : Dev nD × Ck => (cellInv ER (ringRd BK BV) (K ck) (kcell ck) : sProp 𝕄)) ⊢ cellInv ER (ringRd BK BV) (K ck) (kcell ck) :=
    bigSep_elim (Finset.mem_univ ck)
  iapply h; iexact H
theorem reached_at (ck : Dev nD × Ck) : records BK BV K ⊢ reached ER (kcell ck) 0 := by
  unfold records
  iintro ⟨-, H, -⟩
  have h : (bigSep Finset.univ fun ck : Dev nD × Ck => (reached ER (kcell ck) 0 : sProp 𝕄)) ⊢ reached ER (kcell ck) 0 :=
    bigSep_elim (Finset.mem_univ ck)
  iapply h; iexact H
theorem levs_at : records BK BV K ⊢ levAts L lv := by
  unfold records
  iintro ⟨-, -, H⟩
  iexact H

/-- Device `c` owes `O`, having waited for something or other. -/
def owing (c : Dev nD) (O : CellTallies nD τ sig Unit) : sProp 𝕄 := iprop(∃ W, owes (c : Thread nD τ) O W)

/-! ## The handshake -/

theorem duty_bar (c : Dev nD) (d : Bool) : d ∈ (ringRd BK BV).duties (barCell c) 0 := by rw [duties_cell]; exact Finset.mem_univ _
theorem duty_one (c : Dev nD) (x : Bool × Ch) : false ∈ (ringRd BK BV).duties (kcell (c, some x)) 0 := by
  rw [duties_cell]; exact Finset.mem_singleton_self _

/-- Both neighbours told, and both neighbours heard of: the right neighbour's slots may be written. -/
theorem wp_handshake (c : Dev nD) (Q : PUnit → sProp 𝕄) :
    iprop(records BK BV K ∗ owing c (O₀ c) ∗ dutyTok ER (barCell (prv c)) 0 true ∗ dutyTok ER (barCell (nxt c)) 0 false
        ∗ (bigSep Finset.univ fun ch : Ch => anyPiece c ch.1.succ ch.2) ∗ cred (tallyAt (barCell c) () 2) ∗ atPos ER (barCell c) 0 ∅ 0
        ∗ ((owing c (owedR c 0) ∗ semVal (barCell c) 0 ∗ barPay c) -∗ Q ⟨⟩))
      ⊢ Wp c (handshake c) Q := by
  unfold handshake Wp owing
  simp only [semSignalWord, semWaitWord, Prog.lift, Prog.bind_op, Prog.bind_ret, Prog.pure_eq_ret]
  iintro ⟨#HR, ⟨%W, HO⟩, HtP, HtN, Hland, Hc, Hat, Hk⟩
  iapply (Rounds.wp_signal 𝒱₀ ER (ringRd BK BV) (c : Thread nD τ) none (dst := (prv c : Thread nD τ)) (κ := K (prv c, none))
      (d := true) (duty_bar BK BV (prv c) true) ((amount_cell BK BV (prv c) none true).trans (by decide)) () (O₁ c) rfl)
    $$ [HO HtP Hland]
  · isplitr; · iapply (inv_at BK BV K (prv c, none)); iexact HR
    isplitl [HO]; · iexact HO
    isplitl [HtP]; · iexact HtP
    isplitl [Hland]
    · iapply (show barPay (prv c) ⊢ (ringRd BK BV).payload ((prv c : Thread nD τ), .reg barS) 0 true from
        Entails.of_eq (payload_cell BK BV (prv c) none true).symm)
      unfold barPay; rw [nxt_prv]; iexact Hland
    · iapply (reached_at BK BV K (prv c, none)); iexact HR
  iintro HO
  iapply (Rounds.wp_signal 𝒱₀ ER (ringRd BK BV) (c : Thread nD τ) none (dst := (nxt c : Thread nD τ)) (κ := K (nxt c, none))
      (d := false) (duty_bar BK BV (nxt c) false) ((amount_cell BK BV (nxt c) none false).trans (by decide)) () (owedR c 0) rfl)
    $$ [HO HtN]
  · isplitr; · iapply (inv_at BK BV K (nxt c, none)); iexact HR
    isplitl [HO]; · iexact HO
    isplitl [HtN]; · iexact HtN
    isplitr
    · iapply (show (iprop(emp) : sProp 𝕄) ⊢ (ringRd BK BV).payload ((nxt c : Thread nD τ), .reg barS) 0 false from
        Entails.of_eq (payload_cell BK BV (nxt c) none false).symm)
      iempintro
    · iapply (reached_at BK BV K (nxt c, none)); iexact HR
  iintro HO
  iapply (Rounds.wp_wait_rest_token 𝒱₀ ER (ringRd BK BV) (c : Thread nD τ) none (κ := K (c, none)) (sm := csem none)
      (wpE_semWait_eq 𝒱₀ (c : Thread nD τ) none Set.univ) (Set.mem_univ _) () (O := owedR c 0) (W := W) (R := 0) (m := 0) (T := ∅)
      (by rw [Nat.zero_add]; exact (expect_bar BK BV c).symm)) $$ [Hc HO Hat]
  · isplitr; · iapply (inv_at BK BV K (c, none)); iexact HR
    isplitl [Hc]; · iexact Hc
    isplitl [HO]; · iexact HO
    isplitr
    · iapply (mayWait_owedR (F := F) c none 0 (by decide)); iapply (levs_at BK BV K); iexact HR
    iexact Hat
  iintro ⟨HO, Hat, -, Hpay⟩
  ihave Hp := (Entails.of_eq (rest_bar BK BV c)) $$ Hpay
  icases Hp with ⟨-, Hp⟩
  imod (Rounds.cell_close ER (ringRd BK BV) (Set.mem_univ (K (c, none))) (fun h => h) (R := 0 + 1) (duties_later BK BV (barCell c))) $$ [Hat] with Hz
  · isplitr; · iapply (inv_at BK BV K (c, none)); iexact HR
    iexact Hat
  rw [wp_ret]; imodintro
  iapply Hk
  isplitl [HO]; · iexists _; iexact HO
  isplitl [Hz]; · iexact Hz
  iexact Hp

/-! ## Transfers -/

/-- Hop `h`'s copy of part `p`. -/
def sendP (c : Dev nD) (h : Fin 15) : Part → Pg F PUnit
  | none => sendK c h
  | some j => sendV c h j
/-- The wait for hop `h`'s part `p` to land. -/
def waitR (h : Fin 15) : Part → Pg F PUnit
  | none => waitRK h
  | some j => waitRV h j
/-- The wait for the device's own copy of part `p` to have left. -/
def waitS (h : Fin 15) : Part → Pg F PUnit
  | none => waitSK h
  | some j => waitSV h j

/-- What device `c` needs to make transfer `(h, p)`: both duties, and the right neighbour's slot. -/
def toSend (c : Dev nD) (h : Fin 15) (p : Part) : sProp 𝕄 :=
  iprop(dutyTok ER (sendCell c (h, p)) 0 false ∗ dutyTok ER (recvCell (nxt c) (h, p)) 0 false ∗ anyPiece (nxt c) h.succ p)

theorem piece_halves (c : Dev nD) (s : Fin 16) (p : Part) :
    blkPiece BK BV c s p fullShare ⊢ iprop(blkPiece BK BV c s p fullShare.left ∗ blkPiece BK BV c s p fullShare.right) := by
  rcases p with _ | j <;> unfold blkPiece piece <;> exact (pointsTo_share (PosShare.mem_left_op_right fullShare)).1
theorem piece_whole (c : Dev nD) (s : Fin 16) (p : Part) :
    iprop(blkPiece BK BV c s p fullShare.left ∗ blkPiece BK BV c s p fullShare.right) ⊢ blkPiece BK BV c s p fullShare := by
  rcases p with _ | j <;> unfold blkPiece piece <;> exact (pointsTo_share (PosShare.mem_left_op_right fullShare)).2

theorem blkPiece_key (c : Dev nD) (s : Fin 16) (q : PosShare TreeShare) :
    blkPiece BK BV c s none q = ((kSlot s).view.loc (c : Thread nD τ) ↦[(kSlot s).view.set]{q} ringF BK c) := rfl
theorem blkPiece_val (c : Dev nD) (s : Fin 16) (j : Fin 2) (q : PosShare TreeShare) :
    blkPiece BK BV c s (some j) q = ((vHalf s j).view.loc (c : Thread nD τ) ↦[(vHalf s j).view.set]{q} ringF BV c) := rfl
theorem piece_key (c : Dev nD) (s : Fin 16) (q : PosShare TreeShare) (fk fv) :
    piece (F := F) c s none q fk fv = ((kSlot s).view.loc (c : Thread nD τ) ↦[(kSlot s).view.set]{q} fk) := rfl
theorem piece_val (c : Dev nD) (s : Fin 16) (j : Fin 2) (q : PosShare TreeShare) (fk fv) :
    piece (F := F) c s (some j) q fk fv = ((vHalf s j).view.loc (c : Thread nD τ) ↦[(vHalf s j).view.set]{q} fv) := rfl

/-- A landed key block is the payload of its landing. -/
theorem pay_landK (c : Dev nD) (h : Fin 15) (fd : (cc0_scratch0 : Ref sig .tc).ty.Contents (Elt F)) :
    ((kSlot h.succ).view.loc (nxt c : Thread nD τ) ↦[(kSlot h.succ).view.set]{fullShare}
        ((kSlot h.succ).view.write (Elt F) fd ((kSlot h.castSucc).view.read (Elt F) (ringF BK c)) Finset.univ) : sProp 𝕄)
      ⊢ (ringRd BK BV).payload (recvCell (nxt c) (h, none)) 0 false := by
  rw [payload_cell BK BV (nxt c) (some (true, (h, none))) false, pay, blkPiece_key, pointsTo_congr (landedK BK c h fd)]
theorem pay_landV (c : Dev nD) (h : Fin 15) (j : Fin 2) (fd : (cc0_scratch1 : Ref sig .tc).ty.Contents (Elt F)) :
    ((vHalf h.succ j).view.loc (nxt c : Thread nD τ) ↦[(vHalf h.succ j).view.set]{fullShare}
        ((vHalf h.succ j).view.write (Elt F) fd ((vHalf h.castSucc j).view.read (Elt F) (ringF BV c)) Finset.univ) : sProp 𝕄)
      ⊢ (ringRd BK BV).payload (recvCell (nxt c) (h, some j)) 0 false := by
  rw [payload_cell BK BV (nxt c) (some (true, (h, some j))) false, pay, blkPiece_val, pointsTo_congr (landedV BV c h j fd)]
/-- The lent share is the payload of having left. -/
theorem pay_left (c : Dev nD) (h : Fin 15) (p : Part) :
    blkPiece BK BV c h.castSucc p fullShare.left ⊢ (ringRd BK BV).payload (sendCell c (h, p)) 0 false := by
  rw [payload_cell BK BV c (some (false, (h, p))) false, pay]

/-- A transfer made: the left half of the slot's share is lent to it, the right half stays. -/
theorem wp_sendP (c : Dev nD) (h : Fin 15) (p : Part) (Q : PUnit → sProp 𝕄) :
    iprop(records BK BV K ∗ owing c (owedR c (ord (h, p))) ∗ toSend c h p ∗ blkPiece BK BV c h.castSucc p fullShare
        ∗ ((owing c (owedR c (ord (h, p) + 1)) ∗ cred (tallyAt (sendCell c (h, p)) () (amt p)) ∗ blkPiece BK BV c h.castSucc p fullShare.right) -∗ Q ⟨⟩))
      ⊢ Wp c (sendP c h p) Q := by
  unfold owing toSend anyPiece
  iintro ⟨#HR, ⟨%W, HO⟩, ⟨HtS, HtR, ⟨%fk, %fv, Hdst⟩⟩, Hsrc, Hk⟩
  ihave Hs := (piece_halves BK BV c h.castSucc p) $$ Hsrc
  icases Hs with ⟨Hl, Hr⟩
  ihave #HI1 := (inv_at BK BV K (c, some (false, (h, p)))) $$ HR
  ihave #HI2 := (inv_at BK BV K (nxt c, some (true, (h, p)))) $$ HR
  ihave #HR1 := (reached_at BK BV K (c, some (false, (h, p)))) $$ HR
  ihave #HR2 := (reached_at BK BV K (nxt c, some (true, (h, p)))) $$ HR
  rcases p with _ | j
  · ihave Hl := (Entails.of_eq (blkPiece_key BK BV c h.castSucc fullShare.left)) $$ Hl
    ihave Hdst := (Entails.of_eq (piece_key (nxt c) h.succ fullShare fk fv)) $$ Hdst
    unfold sendP sendK Wp Prog.lift
    iapply (Rounds.wp_send_pointsTo 𝒱₀ ER (ringRd BK BV) (c : Thread nD τ) none (c' := (nxt c : Thread nD τ)) (src := kSlot h.castSucc) (dst := kSlot h.succ)
      (sS := osem (false, (h, none))) (sem := osem (true, (h, none)))
      (κ₁ := K (c, some (false, (h, none)))) (κ₂ := K (nxt c, some (true, (h, none))))
      (q := fullShare.left) (fs := ringF BK c) (r₁ := 0) (r₂ := 0) (d₁ := false) (d₂ := false) (fd := fk)
      (duty_one BK BV c (false, (h, none)))
      (duty_one BK BV (nxt c) (true, (h, none)))
      () () (amt none) rfl (amount_cell BK BV c (some (false, (h, none))) false) (amount_cell BK BV (nxt c) (some (true, (h, none))) false)
      (owedR c (ord (h, none) + 1)) (owedR_ord c (h, none)) (W := W)
      (pay_left BK BV c h (none)) (pay_landK BK BV c h fk)) $$ [HO HtS HtR Hdst Hl]
    · isplitr; · iexact HI1
      isplitr; · iexact HI2
      isplitl [Hl]; · iexact Hl
      isplitl [Hdst]; · iexact Hdst
      isplitl [HO]; · iexact HO
      isplitl [HtS]; · iexact HtS
      isplitr; · iexact HR1
      isplitl [HtR]; · iexact HtR
      iexact HR2
    iintro ⟨Hc, HO⟩
    rw [wp_ret]; imodintro
    iapply Hk
    isplitl [HO]; · iexists _; iexact HO
    isplitl [Hc]; · iexact Hc
    iexact Hr
  · ihave Hl := (Entails.of_eq (blkPiece_val BK BV c h.castSucc j fullShare.left)) $$ Hl
    ihave Hdst := (Entails.of_eq (piece_val (nxt c) h.succ j fullShare fk fv)) $$ Hdst
    unfold sendP sendV Wp Prog.lift
    iapply (Rounds.wp_send_pointsTo 𝒱₀ ER (ringRd BK BV) (c : Thread nD τ) none (c' := (nxt c : Thread nD τ)) (src := vHalf h.castSucc j) (dst := vHalf h.succ j)
      (sS := osem (false, (h, some j))) (sem := osem (true, (h, some j)))
      (κ₁ := K (c, some (false, (h, some j)))) (κ₂ := K (nxt c, some (true, (h, some j))))
      (q := fullShare.left) (fs := ringF BV c) (r₁ := 0) (r₂ := 0) (d₁ := false) (d₂ := false) (fd := fv)
      (duty_one BK BV c (false, (h, some j)))
      (duty_one BK BV (nxt c) (true, (h, some j)))
      () () (amt (some j)) rfl (amount_cell BK BV c (some (false, (h, some j))) false) (amount_cell BK BV (nxt c) (some (true, (h, some j))) false)
      (owedR c (ord (h, some j) + 1)) (owedR_ord c (h, some j)) (W := W)
      (pay_left BK BV c h (some j)) (pay_landV BK BV c h j fv)) $$ [HO HtS HtR Hdst Hl]
    · isplitr; · iexact HI1
      isplitr; · iexact HI2
      isplitl [Hl]; · iexact Hl
      isplitl [Hdst]; · iexact Hdst
      isplitl [HO]; · iexact HO
      isplitl [HtS]; · iexact HtS
      isplitr; · iexact HR1
      isplitl [HtR]; · iexact HtR
      iexact HR2
    iintro ⟨Hc, HO⟩
    rw [wp_ret]; imodintro
    iapply Hk
    isplitl [HO]; · iexists _; iexact HO
    isplitl [Hc]; · iexact Hc
    iexact Hr

/-- What device `c` needs to wait on semaphore `x` of a transfer: its units, and its place. -/
def toWait (c : Dev nD) (x : Bool × Ch) : sProp 𝕄 :=
  iprop(cred (tallyAt (kcell (c, some x)) () (amt x.2.2)) ∗ atPos ER (kcell (c, some x)) 0 ∅ 0)

/-- The wait on semaphore `x` of a transfer: its payload arrives and the semaphore is back at zero. -/
theorem wp_wait (c : Dev nD) (x : Bool × Ch) (n : ℕ) (hn : rank (some (some x)) < n + 2) {w : TpuEff nD τ sig (Elt F) Λ₀ .tc PUnit} {a : ℕ} (ha : a = amt x.2.2)
    (hw : ∀ Q : PUnit → sProp 𝕄, wpE (defs₀ (F := F)) 𝒱₀ (c : Thread nD τ) none Set.univ w Q = waitSpec (c : Thread nD τ) Set.univ (osem x) a Q)
    (Q : PUnit → sProp 𝕄) :
    iprop(records BK BV K ∗ owing c (owedR c n) ∗ toWait c x
        ∗ ((owing c (owedR c n) ∗ semVal (kcell (c, some x)) 0 ∗ pay BK BV c false (some x)) -∗ Q ⟨⟩))
      ⊢ Wp c (Prog.lift w) Q := by
  subst ha
  unfold Wp Prog.lift owing toWait
  iintro ⟨#HR, ⟨%W, HO⟩, ⟨Hc, Hat⟩, Hk⟩
  iapply (Rounds.wp_wait_rest_token 𝒱₀ ER (ringRd BK BV) (c : Thread nD τ) none (κ := K (c, some x)) (sm := csem (some x))
      hw (Set.mem_univ _) () (O := owedR c n) (W := W) (R := 0) (m := 0) (T := ∅)
      (by rw [Nat.zero_add]; exact (expect_one BK BV c x).symm)) $$ [Hc HO Hat]
  · isplitr; · iapply (inv_at BK BV K (c, some x)); iexact HR
    isplitl [Hc]; · iexact Hc
    isplitl [HO]; · iexact HO
    isplitr
    · iapply (mayWait_owedR (F := F) c (some x) n hn); iapply (levs_at BK BV K); iexact HR
    iexact Hat
  iintro ⟨HO, Hat, -, Hpay⟩
  ihave Hp := (Entails.of_eq (rest_one BK BV c x)) $$ Hpay
  imod (Rounds.cell_close ER (ringRd BK BV) (Set.mem_univ (K (c, some x))) (fun h => h) (R := 0 + 1) (duties_later BK BV (kcell (c, some x)))) $$ [Hat] with Hz
  · isplitr; · iapply (inv_at BK BV K (c, some x)); iexact HR
    iexact Hat
  rw [wp_ret]; imodintro
  iapply Hk
  isplitl [HO]; · iexists _; iexact HO
  isplitl [Hz]; · iexact Hz
  iexact Hp

/-- The wait for part `p` of hop `h` to land: the slot holds what the ring brings. -/
theorem wp_waitR (c : Dev nD) (h : Fin 15) (p : Part) (n : ℕ) (hn : ord (h, p) < n) (Q : PUnit → sProp 𝕄) :
    iprop(records BK BV K ∗ owing c (owedR c n) ∗ toWait c (true, (h, p))
        ∗ ((owing c (owedR c n) ∗ semVal (recvCell c (h, p)) 0 ∗ blkPiece BK BV c h.succ p fullShare) -∗ Q ⟨⟩))
      ⊢ Wp c (waitR h p) Q := by
  rcases p with _ | j
  · unfold waitR waitRK
    refine wp_wait BK BV K c (true, (h, none)) n (Nat.add_lt_add_right hn 2) (a := amt (none)) rfl ?_ Q
    exact wpE_waitDma2_eq 𝒱₀ (c : Thread nD τ) none Set.univ
  · unfold waitR waitRV
    refine wp_wait BK BV K c (true, (h, some j)) n (Nat.add_lt_add_right hn 2) (a := amt (some j)) rfl ?_ Q
    exact wpE_waitDma2_eq 𝒱₀ (c : Thread nD τ) none Set.univ

/-- The wait for the device's own part `p` of hop `h` to have left: the lent share of the slot comes back. -/
theorem wp_waitS (c : Dev nD) (h : Fin 15) (p : Part) (n : ℕ) (Q : PUnit → sProp 𝕄) :
    iprop(records BK BV K ∗ owing c (owedR c n) ∗ toWait c (false, (h, p))
        ∗ ((owing c (owedR c n) ∗ semVal (sendCell c (h, p)) 0 ∗ blkPiece BK BV c h.castSucc p fullShare.left) -∗ Q ⟨⟩))
      ⊢ Wp c (waitS h p) Q := by
  rcases p with _ | j
  · unfold waitS waitSK
    refine wp_wait BK BV K c (false, (h, none)) n (Nat.succ_pos _) (a := amt (none)) rfl ?_ Q
    exact wpE_waitDma2_eq 𝒱₀ (c : Thread nD τ) none Set.univ
  · unfold waitS waitSV
    refine wp_wait BK BV K c (false, (h, some j)) n (Nat.succ_pos _) (a := amt (some j)) rfl ?_ Q
    exact wpE_waitDma2_eq 𝒱₀ (c : Thread nD τ) none Set.univ

/-- A loop over `N` steps, by what holds before each. -/
theorem wp_each (c : Dev nD) (N : ℕ) (f : Fin N → Pg F PUnit) (I : ℕ → sProp 𝕄)
    (hstep : ∀ (i : Fin N) (Q : PUnit → sProp 𝕄), iprop(I i.val ∗ (I (i.val + 1) -∗ Q ⟨⟩)) ⊢ Wp c (f i) Q) (Q : PUnit → sProp 𝕄) :
    iprop(I 0 ∗ (I N -∗ Q ⟨⟩)) ⊢ Wp c (each N f) Q := by
  induction N generalizing I with
  | zero =>
    unfold each Wp; rw [Prog.pure_eq_ret, wp_ret]
    iintro ⟨HI, Hk⟩; imodintro; iapply Hk; iexact HI
  | succ N ih =>
    unfold each
    rw [Wp_bind]
    refine BIBase.Entails.trans ?_ (hstep 0 _)
    iintro ⟨HI, Hk⟩
    rw [Fin.val_zero]
    isplitl [HI]; · iexact HI
    iintro HI
    iapply (ih (fun i => f i.succ) (fun n => I (n + 1)) fun i Q => hstep i.succ Q)
    isplitl [HI]; · iexact HI
    iexact Hk

end Cert.KernelIdeal.Pass

end
-- ==== Proof.KernelIdeal.Sums.lean ====
module

public import proofs.«01_k».proof.Proof.KernelIdeal.Moves

@[expose] public section

set_option maxRecDepth 16384

noncomputable section

/-!
The steps of a device on its own memory: reading a slot, the running sums, writing its own block to slot 0,
the queries, the result.
-/

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

variable (BK : Dev nD → Vec F S1x8x64x256 .fp8e4m3) (BV : Dev nD → Vec F S1x8x64x256 .bf16)

/-- The buffer `b` of device `c`, whole, holding `f`. -/
abbrev held (c : Dev nD) (b : Ref sig .tc) (f : b.ty.Contents (Elt F)) : sProp 𝕄 := ((c : Thread nD τ).loc b) ↦{fullShare} f

/-! ## Reading and writing whole buffers -/

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- A load, given what it reads. -/
theorem wp_get (c : Dev nD) {cs : CoreSpace} {s : Shape} {e : EltTy} (m : Memref sig .tc cs s e) (r : LoadRect s) (hl : m.view.LoadsAt r)
    {S : Finset (Idx (m.view.loc (c : Thread nD τ)))} (q : PosShare TreeShare) {f : Buf (Elt F) (m.view.loc (c : Thread nD τ))}
    (hS : m.view.setOn r.set ⊆ S) (w : r.shape.Idx → Elt F e) (hw : m.view.readAt (Elt F) r f = w) (Q : (r.shape.Idx → Elt F e) → sProp 𝕄) :
    iprop((m.view.loc (c : Thread nD τ) ↦[S]{q} f) ∗ ((m.view.loc (c : Thread nD τ) ↦[S]{q} f) -∗ Q w)) ⊢ Wp c (Prog.lift (.load m r hl)) Q := by
  subst hw
  unfold Wp Prog.lift
  iintro ⟨H, Hk⟩
  iapply (wp_load 𝒱₀ (c : Thread nD τ) none Set.univ (m := m) hS) $$ H
  iintro H
  rw [wp_ret]; imodintro
  iapply Hk; iexact H

/-- A store of the whole rectangle, given what the elements held then are. -/
theorem wp_put (c : Dev nD) {cs : CoreSpace} {s : Shape} {e : EltTy} (m : Memref sig .tc cs s e) (r : Rect s) (w : r.shape.Idx → Elt F e) (hx) (hm)
    {S : Finset (Idx ((m.access r).loc (c : Thread nD τ)))} {f g : Buf (Elt F) ((m.access r).loc (c : Thread nD τ))}
    (hS : (m.access r).setOn Finset.univ ⊆ S) (hg : ∀ i ∈ S, (m.access r).write (Elt F) f w Finset.univ i = g i) (Q : PUnit → sProp 𝕄) :
    iprop(((m.access r).loc (c : Thread nD τ) ↦[S]{fullShare} f) ∗ (((m.access r).loc (c : Thread nD τ) ↦[S]{fullShare} g) -∗ Q ⟨⟩))
      ⊢ Wp c (Prog.lift (.store m r w Finset.univ hx hm)) Q := by
  rw [← pointsTo_congr hg]
  unfold Wp Prog.lift
  iintro ⟨H, Hk⟩
  iapply (wp_store 𝒱₀ (c : Thread nD τ) none Set.univ (m := m) (r := r) (Mk := Finset.univ) hS) $$ H
  iintro H
  rw [wp_ret]; imodintro
  iapply Hk; iexact H

/-- A store of all of a buffer. -/
theorem wp_put_all (c : Dev nD) {cs : CoreSpace} {s : Shape} {e : EltTy} (m : Memref sig .tc cs s e) (r : Rect s) (w : r.shape.Idx → Elt F e) (hx) (hm)
    (f g : Buf (Elt F) ((m.access r).loc (c : Thread nD τ))) (hg : (m.access r).write (Elt F) f w Finset.univ = g) (Q : PUnit → sProp 𝕄) :
    iprop(((m.access r).loc (c : Thread nD τ) ↦{fullShare} f) ∗ (((m.access r).loc (c : Thread nD τ) ↦{fullShare} g) -∗ Q ⟨⟩))
      ⊢ Wp c (Prog.lift (.store m r w Finset.univ hx hm)) Q :=
  wp_put c m r w hx hm (Finset.subset_univ _) (fun i _ => congrFun hg i) Q

/-- The whole of the running sums of the weights. -/
abbrev lR : Rect S8x256 := Rect.unit (s := S8x256) ![0, 0] S8x256.size inb_S8x256_S8x256_0_0
/-- The whole of the running weighted sums. -/
abbrev aR : Rect S8x64x256 := Rect.unit (s := S8x64x256) ![0, 0, 0] S8x64x256.size inb_S8x64x256_S8x64x256_0_0_0
/-- The whole of the result. -/
abbrev oR : Rect S2x256x512 := Rect.unit (s := S2x256x512) ![0, 0, 0] S2x256x512.size inb_S2x256x512_S2x256x512_0_0_0

theorem wp_loadL (c : Dev nD) (f : Vec F S8x256 .f32) (Q : Vec F S8x256 .f32 → sProp 𝕄) :
    iprop(held c cc0_scratch2 f ∗ (held c cc0_scratch2 f -∗ Q f)) ⊢ Wp c loadL Q :=
  wp_get c lM lR.toLoadRect (View.loadsAt_vmem h_S8x256) fullShare (f := f) (Finset.subset_univ _) f
    (Memref.readAt_unit_zero (Elt F) cc0_scratch2 zero2 inb_S8x256_S8x256_0_0 f) Q
theorem wp_loadA (c : Dev nD) (f : Vec F S8x64x256 .f32) (Q : Vec F S8x64x256 .f32 → sProp 𝕄) :
    iprop(held c cc0_scratch3 f ∗ (held c cc0_scratch3 f -∗ Q f)) ⊢ Wp c loadA Q :=
  wp_get c aM aR.toLoadRect (View.loadsAt_vmem h_S8x64x256) fullShare (f := f) (Finset.subset_univ _) f
    (Memref.readAt_unit_zero (Elt F) cc0_scratch3 zero3 inb_S8x64x256_S8x64x256_0_0_0 f) Q
theorem wp_storeL (c : Dev nD) (w f : Vec F S8x256 .f32) (Q : PUnit → sProp 𝕄) :
    iprop(held c cc0_scratch2 f ∗ (held c cc0_scratch2 w -∗ Q ⟨⟩)) ⊢ Wp c (storeL w) Q :=
  wp_put_all c lM lR w _ _ f w (Memref.write_access_unit_zero_univ (Elt F) cc0_scratch2 zero2 inb_S8x256_S8x256_0_0 f w) Q
theorem wp_storeA (c : Dev nD) (w f : Vec F S8x64x256 .f32) (Q : PUnit → sProp 𝕄) :
    iprop(held c cc0_scratch3 f ∗ (held c cc0_scratch3 w -∗ Q ⟨⟩)) ⊢ Wp c (storeA w) Q :=
  wp_put_all c aM aR w _ _ f w (Memref.write_access_unit_zero_univ (Elt F) cc0_scratch3 zero3 inb_S8x64x256_S8x64x256_0_0_0 f w) Q

/-! ## Slots -/

/-- Slot `s` of the key blocks, holding `f`. -/
abbrev kHeld (c : Dev nD) (s : Fin 16) (q : PosShare TreeShare) (f : (cc0_scratch0 : Ref sig .tc).ty.Contents (Elt F)) : sProp 𝕄 :=
  (kSlot s).view.loc (c : Thread nD τ) ↦[(kSlot s).view.set]{q} f
/-- Slot `s` of the value blocks, both halves, holding `f`. -/
abbrev vHeld (c : Dev nD) (s : Fin 16) (q : PosShare TreeShare) (f : (cc0_scratch1 : Ref sig .tc).ty.Contents (Elt F)) : sProp 𝕄 :=
  ((c : Thread nD τ).loc cc0_scratch1) ↦[(slotR s).set]{q} f

theorem setOn_kM (s : Fin 16) : (kM.view.setOn (slotR s).toLoadRect.set : Finset S16x8x64x256.Idx) ⊆ kSet s := by
  rw [kSet_eq]
  intro i hi
  obtain ⟨x, hx, rfl⟩ := Finset.mem_map.mp hi
  exact hx
theorem setOn_vM (s : Fin 16) : (vM.view.setOn (slotR s).toLoadRect.set : Finset S16x8x64x256.Idx) ⊆ (slotR s).set := by
  intro i hi
  obtain ⟨x, hx, rfl⟩ := Finset.mem_map.mp hi
  exact hx

theorem wp_loadK (c : Dev nD) (s : Fin 16) (q : PosShare TreeShare) (f) (Q : Vec F S1x8x64x256 .fp8e4m3 → sProp 𝕄) :
    iprop(kHeld c s q f ∗ (kHeld c s q f -∗ Q (kM.view.readAt (Elt F) (slotR s).toLoadRect f))) ⊢ Wp c (loadK s) Q :=
  wp_get c kM (slotR s).toLoadRect _ (S := kSet s) q (setOn_kM s) _ rfl Q
theorem wp_loadV (c : Dev nD) (s : Fin 16) (q : PosShare TreeShare) (f) (Q : Vec F S1x8x64x256 .bf16 → sProp 𝕄) :
    iprop(vHeld c s q f ∗ (vHeld c s q f -∗ Q (vM.view.readAt (Elt F) (slotR s).toLoadRect f))) ⊢ Wp c (loadV s) Q :=
  wp_get c vM (slotR s).toLoadRect _ (S := (slotR s).set) q (setOn_vM s) _ rfl Q

/-- The three parts of something. -/
def parts (Φ : Part → sProp 𝕄) : sProp 𝕄 := iprop(Φ none ∗ Φ (some 0) ∗ Φ (some 1))

/-- Slot `s` of both rings, holding what the ring brings there. -/
def slotP (c : Dev nD) (s : Fin 16) (q : PosShare TreeShare) : sProp 𝕄 := parts fun p => blkPiece BK BV c s p q

theorem slotP_eq (c : Dev nD) (s : Fin 16) (q : PosShare TreeShare) :
    slotP BK BV c s q ⊣⊢ iprop(kHeld c s q (ringF BK c) ∗ vHeld c s q (ringF BV c)) := by
  have h : (vHeld c s q (ringF BV c) : sProp 𝕄) ⊣⊢ iprop(blkPiece BK BV c s (some 0) q ∗ blkPiece BK BV c s (some 1) q) := by
    unfold vHeld
    rw [slot_halves]
    exact pointsTo_union (vSet_disjoint (s, 0) (s, 1) (by simp))
  exact ⟨sep_mono_right h.2, sep_mono_right h.1⟩

/-! ## The running sums -/

/-- Add the block in slot `s` with the two update rules given. -/
def accWith (s : Fin 16) (fl : Vec F S1x8x64x256 .fp8e4m3 → Vec F S8x256 .f32 → Vec F S8x256 .f32)
    (fa : Vec F S1x8x64x256 .fp8e4m3 → Vec F S8x64x256 .f32 → Vec F S1x8x64x256 .bf16 → Vec F S8x64x256 .f32) : Pg F PUnit := do
  let k ← loadK s
  let l ← loadL
  let _ ← loadL
  storeL (fl k l)
  let a ← loadA
  let v ← loadV s
  let _ ← loadA
  storeA (fa k a v)

theorem accOwn_eq (q : FVec F S8x256x64 .bf16) : accOwn q = accWith 0 (k0_pay11 q mask) (k0_pay12 q mask) := rfl
theorem accSlot_eq (q : FVec F S8x256x64 .bf16) (s : Fin 16) : accSlot q s = accWith s (k0_pay14 q) (k0_pay15 q) := rfl

theorem wp_accWith (c : Dev nD) (s : Fin 16) (fl fa) (q : PosShare TreeShare) (l : Vec F S8x256 .f32) (a : Vec F S8x64x256 .f32) (Q : PUnit → sProp 𝕄) :
    iprop(slotP BK BV c s q ∗ held c cc0_scratch2 l ∗ held c cc0_scratch3 a
        ∗ ((slotP BK BV c s q ∗ held c cc0_scratch2 (fl (BK (back c s.val)) l) ∗ held c cc0_scratch3 (fa (BK (back c s.val)) a (BV (back c s.val)))) -∗ Q ⟨⟩))
      ⊢ Wp c (accWith s fl fa) Q := by
  unfold accWith
  simp only [Wp_bind]
  iintro ⟨Hs, Hl, Ha, Hk⟩
  ihave Hs := (slotP_eq BK BV c s q).1 $$ Hs
  icases Hs with ⟨HK, HV⟩
  iapply (wp_loadK c s q (ringF BK c)); isplitl [HK]; · iexact HK
  rw [readK]
  iintro HK
  iapply (wp_loadL c l); isplitl [Hl]; · iexact Hl
  iintro Hl
  iapply (wp_loadL c l); isplitl [Hl]; · iexact Hl
  iintro Hl
  iapply (wp_storeL c _ l); isplitl [Hl]; · iexact Hl
  iintro Hl
  iapply (wp_loadA c a); isplitl [Ha]; · iexact Ha
  iintro Ha
  iapply (wp_loadV c s q (ringF BV c)); isplitl [HV]; · iexact HV
  rw [readV]
  iintro HV
  iapply (wp_loadA c a); isplitl [Ha]; · iexact Ha
  iintro Ha
  iapply (wp_storeA c _ a); isplitl [Ha]; · iexact Ha
  iintro Ha
  iapply Hk
  isplitl [HK HV]
  · iapply (slotP_eq BK BV c s q).2; isplitl [HK] <;> iassumption
  isplitl [Hl] <;> iassumption

variable (qv : FVec F S8x256x64 .bf16)

/-- The running sums of the weights after slots `0` to `n`. -/
def Lst (c : Dev nD) : ℕ → Vec F S8x256 .f32
  | 0 => k0_pay11 qv mask (BK (back c 0)) k0_pay8
  | n + 1 => if n + 1 ≤ c.val then k0_pay14 qv (BK (back c (n + 1))) (Lst c n) else Lst c n
/-- The running weighted sums of the values after slots `0` to `n`. -/
def Ast (c : Dev nD) : ℕ → Vec F S8x64x256 .f32
  | 0 => k0_pay12 qv mask (BK (back c 0)) k0_pay9 (BV (back c 0))
  | n + 1 => if n + 1 ≤ c.val then k0_pay15 qv (BK (back c (n + 1))) (Ast c n) (BV (back c (n + 1))) else Ast c n

/-- Both running sums of device `c` after slots `0` to `n`. -/
def sums (c : Dev nD) (n : ℕ) : sProp 𝕄 := iprop(held c cc0_scratch2 (Lst BK qv c n) ∗ held c cc0_scratch3 (Ast BK BV qv c n))

theorem wp_accIf (c : Dev nD) (s : Fin 16) (n : ℕ) (hs : s.val = n + 1) (q : PosShare TreeShare) (Q : PUnit → sProp 𝕄) :
    iprop(slotP BK BV c s q ∗ sums BK BV qv c n ∗ ((slotP BK BV c s q ∗ sums BK BV qv c (n + 1)) -∗ Q ⟨⟩)) ⊢ Wp c (accIf c qv s) Q := by
  unfold accIf sums
  by_cases h : s.val ≤ c.val
  · rw [if_pos h, accSlot_eq]
    have hL : Lst BK qv c (n + 1) = k0_pay14 qv (BK (back c s.val)) (Lst BK qv c n) := by rw [Lst, if_pos (hs ▸ h), hs]
    have hA : Ast BK BV qv c (n + 1) = k0_pay15 qv (BK (back c s.val)) (Ast BK BV qv c n) (BV (back c s.val)) := by rw [Ast, if_pos (hs ▸ h), hs]
    rw [hL, hA]
    iintro ⟨Hs, ⟨Hl, Ha⟩, Hk⟩
    iapply (wp_accWith BK BV c s (k0_pay14 qv) (k0_pay15 qv) q (Lst BK qv c n) (Ast BK BV qv c n))
    isplitl [Hs]; · iexact Hs
    isplitl [Hl]; · iexact Hl
    isplitl [Ha]; · iexact Ha
    iexact Hk
  · rw [if_neg h]
    have hL : Lst BK qv c (n + 1) = Lst BK qv c n := by rw [Lst, if_neg (hs ▸ h)]
    have hA : Ast BK BV qv c (n + 1) = Ast BK BV qv c n := by rw [Ast, if_neg (hs ▸ h)]
    rw [hL, hA]
    unfold Wp; rw [Prog.pure_eq_ret, wp_ret]
    iintro ⟨Hs, H, Hk⟩
    imodintro
    iapply Hk
    isplitl [Hs] <;> iassumption

theorem wp_clear (c : Dev nD) (Q : PUnit → sProp 𝕄) :
    iprop((∃ f, held c cc0_scratch2 f) ∗ (∃ f, held c cc0_scratch3 f) ∗ ((held c cc0_scratch2 k0_pay8 ∗ held c cc0_scratch3 k0_pay9) -∗ Q ⟨⟩))
      ⊢ Wp c (clear (F := F)) Q := by
  unfold clear
  simp only [Wp_bind]
  iintro ⟨⟨%l, Hl⟩, ⟨%a, Ha⟩, Hk⟩
  iapply (wp_loadL c l); isplitl [Hl]; · iexact Hl
  iintro Hl
  iapply (wp_storeL c _ l); isplitl [Hl]; · iexact Hl
  iintro Hl
  iapply (wp_loadA c a); isplitl [Ha]; · iexact Ha
  iintro Ha
  iapply (wp_storeA c _ a); isplitl [Ha]; · iexact Ha
  iintro Ha
  iapply Hk
  isplitl [Hl] <;> iassumption

theorem wp_accOwn (c : Dev nD) (q : PosShare TreeShare) (Q : PUnit → sProp 𝕄) :
    iprop(slotP BK BV c 0 q ∗ (held c cc0_scratch2 k0_pay8 ∗ held c cc0_scratch3 k0_pay9)
        ∗ ((slotP BK BV c 0 q ∗ sums BK BV qv c 0) -∗ Q ⟨⟩)) ⊢ Wp c (accOwn qv) Q := by
  rw [accOwn_eq]
  iintro ⟨Hs, ⟨Hl, Ha⟩, Hk⟩
  iapply (wp_accWith BK BV c 0 (k0_pay11 qv mask) (k0_pay12 qv mask) q k0_pay8 k0_pay9)
  isplitl [Hs]; · iexact Hs
  isplitl [Hl]; · iexact Hl
  isplitl [Ha]; · iexact Ha
  iexact Hk

/-! ## The device's own block, the queries, the result -/

theorem wp_fill (c : Dev nD) (kv : Vec F S2x256x4x64 .f32) (vv : Vec F S2x256x4x64 .f32) (hk : BK c = k0_pay1 kv) (hv : BV c = k0_pay3 (k0_pay2 vv))
    (Q : PUnit → sProp 𝕄) :
    iprop(held c cc0_stg2_0 kv ∗ held c cc0_stg3_0 vv ∗ (∃ f, kHeld c 0 fullShare f) ∗ (∃ f, vHeld c 0 fullShare f)
        ∗ ((held c cc0_stg2_0 kv ∗ held c cc0_stg3_0 vv ∗ slotP BK BV c 0 fullShare) -∗ Q ⟨⟩))
      ⊢ Wp c (fill (F := F)) Q := by
  unfold fill
  simp only [Wp_bind]
  iintro ⟨Hk, Hv, ⟨%fk, HK⟩, ⟨%fv, HV⟩, Hc⟩
  iapply (wp_get c kinM _ _ fullShare (Finset.subset_univ _) kv (Memref.readAt_unit_zero (Elt F) cc0_stg2_0 zero4 _ kv)); isplitl [Hk]; · iexact Hk
  iintro Hk
  iapply (wp_loadK c 0 fullShare fk); isplitl [HK]; · iexact HK
  iintro HK
  rw [← hk]
  iapply (wp_put c kM (slotR 0) _ _ _ (S := kSet 0) (f := fk) (g := ringF BK c)
    (by rw [kSet_eq]; exact le_of_eq (View.set_slice_whole cc0_scratch0 (slotR 0))) (storedK BK c fk)); isplitl [HK]; · iexact HK
  iintro HK
  iapply (wp_get c vinM _ _ fullShare (Finset.subset_univ _) vv (Memref.readAt_unit_zero (Elt F) cc0_stg3_0 zero4 _ vv)); isplitl [Hv]; · iexact Hv
  iintro Hv
  iapply (wp_loadV c 0 fullShare fv); isplitl [HV]; · iexact HV
  iintro HV
  rw [← hv]
  iapply (wp_put c vM (slotR 0) _ _ _ (S := (slotR 0).set) (f := fv) (g := ringF BV c)
    (le_of_eq (View.set_slice_whole cc0_scratch1 (slotR 0))) (storedV BV c fv)); isplitl [HV]; · iexact HV
  iintro HV
  iapply Hc
  isplitl [Hk]; · iexact Hk
  isplitl [Hv]; · iexact Hv
  iapply (slotP_eq BK BV c 0 fullShare).2
  isplitl [HK] <;> iassumption

theorem wp_queries (c : Dev nD) (x : Vec F S2x256x512 .f32) (w : Vec F S512x256 .f32) (Q : FVec F S8x256x64 .bf16 → sProp 𝕄) :
    iprop(held c cc0_stg0_0 x ∗ held c cc0_stg1_0 w ∗ ((held c cc0_stg0_0 x ∗ held c cc0_stg1_0 w) -∗ Q (k0_pay4 x w))) ⊢ Wp c (queries (F := F)) Q := by
  unfold queries
  simp only [Wp_bind]
  iintro ⟨Hx, Hw, Hk⟩
  iapply (wp_get c xM _ _ fullShare (Finset.subset_univ _) x (Memref.readAt_unit_zero (Elt F) cc0_stg0_0 zero3 _ x)); isplitl [Hx]; · iexact Hx
  iintro Hx
  iapply (wp_get c wqM _ _ fullShare (Finset.subset_univ _) w (Memref.readAt_unit_zero (Elt F) cc0_stg1_0 zero2 _ w)); isplitl [Hw]; · iexact Hw
  iintro Hw
  unfold Wp; rw [Prog.pure_eq_ret, wp_ret]; imodintro
  iapply Hk
  isplitl [Hx] <;> iassumption

theorem wp_finish (c : Dev nD) (l : Vec F S8x256 .f32) (a : Vec F S8x64x256 .f32) (w : Vec F S256x512 .f32) (o : Vec F S2x256x512 .f32) (Q : PUnit → sProp 𝕄) :
    iprop(held c cc0_scratch2 l ∗ held c cc0_scratch3 a ∗ held c cc0_stg4_0 w ∗ held c cc0_stg5_0 o
        ∗ ((held c cc0_scratch2 l ∗ held c cc0_scratch3 a ∗ held c cc0_stg4_0 w ∗ held c cc0_stg5_0 (k0_pay58 a l w)) -∗ Q ⟨⟩)) ⊢ Wp c (finish (F := F)) Q := by
  unfold finish
  simp only [Wp_bind]
  iintro ⟨Hl, Ha, Hw, Ho, Hk⟩
  iapply (wp_loadA c a); isplitl [Ha]; · iexact Ha
  iintro Ha
  iapply (wp_loadL c l); isplitl [Hl]; · iexact Hl
  iintro Hl
  iapply (wp_get c woM _ _ fullShare (Finset.subset_univ _) w (Memref.readAt_unit_zero (Elt F) cc0_stg4_0 zero2 _ w)); isplitl [Hw]; · iexact Hw
  iintro Hw
  iapply (wp_get c outM _ _ fullShare (Finset.subset_univ _) o (Memref.readAt_unit_zero (Elt F) cc0_stg5_0 zero3 _ o)); isplitl [Ho]; · iexact Ho
  iintro Ho
  iapply (wp_put_all c outM oR (k0_pay58 a l w) _ _ o (k0_pay58 a l w)
    (Memref.write_access_unit_zero_univ (Elt F) cc0_stg5_0 zero3 inb_S2x256x512_S2x256x512_0_0_0 o (k0_pay58 a l w))); isplitl [Ho]; · iexact Ho
  iintro Ho
  iapply Hk
  isplitl [Hl]; · iexact Hl
  isplitl [Ha]; · iexact Ha
  isplitl [Hw] <;> iassumption

end Cert.KernelIdeal.Pass

end
-- ==== Proof.KernelIdeal.Hops.lean ====
module

public import proofs.«01_k».proof.Proof.KernelIdeal.Sums

@[expose] public section

set_option maxRecDepth 16384

noncomputable section

/-!
The turns of the ring: the first copies, the fourteen hops that pass a block on and add it, the last block, and the
waits for the device's own copies.
-/

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (BK : Dev nD → Vec F S1x8x64x256 .fp8e4m3) (BV : Dev nD → Vec F S1x8x64x256 .bf16)
variable (K : Dev nD × Ck → ℕ)

/-! ## Families over the parts and over the hops -/

theorem parts_eq (Φ : Part → sProp 𝕄) : (bigSep Finset.univ Φ : sProp 𝕄) = parts Φ := by
  have h : (Finset.univ : Finset Part) = insert none (insert (some 0) {some 1}) := by decide
  rw [h, BI.bigSep_insert (by decide), BI.bigSep_insert (by decide), BI.bigSep_singleton]; rfl

/-- A family over the transfers is one over the hops and the parts. -/
theorem chs_eq (Φ : Ch → sProp 𝕄) : (bigSep Finset.univ Φ : sProp 𝕄) = bigSep Finset.univ fun h : Fin 15 => parts fun p => Φ (h, p) := by
  rw [bigSep_univ_prod]
  exact bigSep_congr fun h _ => parts_eq _

/-- The hops from `n` on, and those before. -/
def hopsFrom (n : ℕ) : Finset (Fin 15) := Finset.univ.filter fun h => n ≤ h.val
def hopsTo (n : ℕ) : Finset (Fin 15) := Finset.univ.filter fun h => h.val < n

theorem hopsFrom_zero : hopsFrom 0 = Finset.univ := by decide
theorem hopsFrom_end : hopsFrom 15 = ∅ := by decide
theorem hopsTo_zero : hopsTo 0 = ∅ := by decide
theorem hopsTo_end : hopsTo 15 = Finset.univ := by decide

theorem from_succ (h : Fin 15) (Φ : Fin 15 → sProp 𝕄) : (bigSep (hopsFrom h.val) Φ : sProp 𝕄) = iprop(Φ h ∗ bigSep (hopsFrom (h.val + 1)) Φ) := by
  have e : hopsFrom h.val = insert h (hopsFrom (h.val + 1)) := by
    ext x; simp only [hopsFrom, Finset.mem_filter, Finset.mem_univ, true_and, Finset.mem_insert, Fin.ext_iff]; omega
  rw [e, BI.bigSep_insert (by simp [hopsFrom])]; rfl
theorem to_succ (h : Fin 15) (Φ : Fin 15 → sProp 𝕄) : (bigSep (hopsTo (h.val + 1)) Φ : sProp 𝕄) = iprop(Φ h ∗ bigSep (hopsTo h.val) Φ) := by
  have e : hopsTo (h.val + 1) = insert h (hopsTo h.val) := by
    ext x; simp only [hopsTo, Finset.mem_filter, Finset.mem_univ, true_and, Finset.mem_insert, Fin.ext_iff]; omega
  rw [e, BI.bigSep_insert (by simp [hopsTo])]; rfl

/-! ## What a hop needs and what it leaves -/

/-- All that hop `h`'s three copies need, with the places in their own semaphores. -/
def toSendH (c : Dev nD) (h : Fin 15) : sProp 𝕄 := parts fun p => iprop(toSend c h p ∗ atPos ER (sendCell c (h, p)) 0 ∅ 0)
/-- One copy on its way: the wait for it to leave is open, and the device keeps half of its share of the slot. -/
def sentP (c : Dev nD) (h : Fin 15) (p : Part) : sProp 𝕄 := iprop(toWait c (false, (h, p)) ∗ blkPiece BK BV c h.castSucc p fullShare.right)
/-- Hop `h`'s three copies on their way. -/
def sentH (c : Dev nD) (h : Fin 15) : sProp 𝕄 := parts (sentP BK BV c h)
/-- The three waits for hop `h`'s landings. -/
def toRecvH (c : Dev nD) (h : Fin 15) : sProp 𝕄 := parts fun p => toWait c (true, (h, p))
/-- The semaphores of hop `h`'s landings, back at zero. -/
def recvZero (c : Dev nD) (h : Fin 15) : sProp 𝕄 := parts fun p => semVal (recvCell c (h, p)) 0
/-- Hop `h`'s copies gone: their semaphores at zero and the slot held in full again. -/
def drained (c : Dev nD) (h : Fin 15) : sProp 𝕄 :=
  parts fun p => iprop(semVal (sendCell c (h, p)) 0 ∗ blkPiece BK BV c h.castSucc p fullShare)

/-- One copy, by what the tables hold for it. -/
theorem wp_sendA (c : Dev nD) (h : Fin 15) (p : Part) (n : ℕ) (hn : n = ord (h, p)) (Q : PUnit → sProp 𝕄) :
    iprop(records BK BV K ∗ owing c (owedR c n) ∗ (toSend c h p ∗ atPos ER (sendCell c (h, p)) 0 ∅ 0) ∗ blkPiece BK BV c h.castSucc p fullShare
        ∗ ((owing c (owedR c (n + 1)) ∗ sentP BK BV c h p) -∗ Q ⟨⟩))
      ⊢ Wp c (sendP c h p) Q := by
  subst hn
  unfold sentP toWait
  iintro ⟨#HR, HO, ⟨Ht, Hat⟩, Hb, Hk⟩
  iapply (wp_sendP BK BV K c h p Q)
  isplitr; · iexact HR
  isplitl [HO]; · iexact HO
  isplitl [Ht]; · iexact Ht
  isplitl [Hb]; · iexact Hb
  iintro ⟨HO, Hc, Hb⟩
  iapply Hk
  isplitl [HO]; · iexact HO
  isplitl [Hc Hat]
  · isplitl [Hc]; · iexact Hc
    iexact Hat
  iexact Hb

/-- The first hop's copies, of the device's own block. -/
theorem wp_first (c : Dev nD) (Q : PUnit → sProp 𝕄) (k : Pg F PUnit) :
    iprop(records BK BV K ∗ owing c (owedR c 0) ∗ toSendH c 0 ∗ slotP BK BV c 0 fullShare
        ∗ ((owing c (owedR c 3) ∗ sentH BK BV c 0) -∗ Wp c k Q))
      ⊢ Wp c (sendP c 0 none >>= fun _ => sendP c 0 (some 0) >>= fun _ => sendP c 0 (some 1) >>= fun _ => k) Q := by
  simp only [Wp_bind]
  unfold toSendH slotP sentH parts
  iintro ⟨#HR, HO, ⟨Ht, Ht0, Ht1⟩, ⟨Hb, Hb0, Hb1⟩, Hk⟩
  iapply (wp_sendA BK BV K c 0 none 0 rfl)
  isplitr; · iexact HR
  isplitl [HO]; · iexact HO
  isplitl [Ht]; · iexact Ht
  isplitl [Hb]; · iexact Hb
  iintro ⟨HO, Hs⟩
  iapply (wp_sendA BK BV K c 0 (some 0) 1 rfl)
  isplitr; · iexact HR
  isplitl [HO]; · iexact HO
  isplitl [Ht0]; · iexact Ht0
  isplitl [Hb0]; · iexact Hb0
  iintro ⟨HO, Hs0⟩
  iapply (wp_sendA BK BV K c 0 (some 1) 2 rfl)
  isplitr; · iexact HR
  isplitl [HO]; · iexact HO
  isplitl [Ht1]; · iexact Ht1
  isplitl [Hb1]; · iexact Hb1
  iintro ⟨HO, Hs1⟩
  iapply Hk
  isplitl [HO]; · iexact HO
  isplitl [Hs]; · iexact Hs
  isplitl [Hs0]; · iexact Hs0
  iexact Hs1

variable (qv : FVec F S8x256x64 .bf16)

/-- A sent slot lends its kept half to a step and takes it back. -/
theorem sent_slot (c : Dev nD) (h : Fin 15) :
    sentH BK BV c h ⊢ iprop(slotP BK BV c h.castSucc fullShare.right ∗ (slotP BK BV c h.castSucc fullShare.right -∗ sentH BK BV c h)) := by
  unfold sentH slotP sentP parts
  iintro ⟨⟨Hw, Hb⟩, ⟨Hw0, Hb0⟩, ⟨Hw1, Hb1⟩⟩
  isplitl [Hb Hb0 Hb1]
  · isplitl [Hb]; · iexact Hb
    isplitl [Hb0] <;> iassumption
  iintro ⟨Hb, Hb0, Hb1⟩
  isplitl [Hw Hb]
  · isplitl [Hw] <;> iassumption
  isplitl [Hw0 Hb0]
  · isplitl [Hw0] <;> iassumption
  isplitl [Hw1] <;> iassumption

theorem hop_eq (c : Dev nD) (i : Fin 14) :
    hop c qv i = (waitR i.castSucc none >>= fun _ => sendP c i.succ none >>= fun _ => waitR i.castSucc (some 0) >>= fun _ => sendP c i.succ (some 0)
      >>= fun _ => waitR i.castSucc (some 1) >>= fun _ => sendP c i.succ (some 1) >>= fun _ => accIf c qv i.succ.castSucc) := rfl

/-- One turn: hop `i`'s landings are passed on as hop `i + 1`, and their block is added. -/
theorem wp_hop (c : Dev nD) (i : Fin 14) (Q : PUnit → sProp 𝕄) :
    iprop(records BK BV K ∗ owing c (owedR c (3 * (i.val + 1))) ∗ toSendH c i.succ ∗ toRecvH c i.castSucc ∗ sums BK BV qv c i.val
        ∗ ((owing c (owedR c (3 * (i.val + 2))) ∗ recvZero c i.castSucc ∗ sentH BK BV c i.succ ∗ sums BK BV qv c (i.val + 1)) -∗ Q ⟨⟩))
      ⊢ Wp c (hop c qv i) Q := by
  rw [hop_eq]
  simp only [Wp_bind]
  have lt : ∀ (p : Part) (k : ℕ), 3 * (i.val + 1) ≤ k → ord (i.castSucc, p) < k := fun p k hk => by
    have := place_lt p; show 3 * i.val + place p < k; omega
  have at_ : ∀ p : Part, 3 * (i.val + 1) + place p = ord (i.succ, p) := fun p => rfl
  unfold toSendH toRecvH recvZero parts
  iintro ⟨#HR, HO, ⟨Ht, Ht0, Ht1⟩, ⟨Hw, Hw0, Hw1⟩, Hsum, Hk⟩
  iapply (wp_waitR BK BV K c i.castSucc none (3 * (i.val + 1)) (lt _ _ le_rfl))
  isplitr; · iexact HR
  isplitl [HO]; · iexact HO
  isplitl [Hw]; · iexact Hw
  iintro ⟨HO, Hz, Hb⟩
  iapply (wp_sendA BK BV K c i.succ none (3 * (i.val + 1)) (at_ none))
  isplitr; · iexact HR
  isplitl [HO]; · iexact HO
  isplitl [Ht]; · iexact Ht
  isplitl [Hb]; · iexact Hb
  iintro ⟨HO, Hs⟩
  iapply (wp_waitR BK BV K c i.castSucc (some 0) (3 * (i.val + 1) + 1) (lt _ _ (by omega)))
  isplitr; · iexact HR
  isplitl [HO]; · iexact HO
  isplitl [Hw0]; · iexact Hw0
  iintro ⟨HO, Hz0, Hb⟩
  iapply (wp_sendA BK BV K c i.succ (some 0) (3 * (i.val + 1) + 1) (at_ (some 0)))
  isplitr; · iexact HR
  isplitl [HO]; · iexact HO
  isplitl [Ht0]; · iexact Ht0
  isplitl [Hb]; · iexact Hb
  iintro ⟨HO, Hs0⟩
  iapply (wp_waitR BK BV K c i.castSucc (some 1) (3 * (i.val + 1) + 1 + 1) (lt _ _ (by omega)))
  isplitr; · iexact HR
  isplitl [HO]; · iexact HO
  isplitl [Hw1]; · iexact Hw1
  iintro ⟨HO, Hz1, Hb⟩
  iapply (wp_sendA BK BV K c i.succ (some 1) (3 * (i.val + 1) + 1 + 1) (at_ (some 1)))
  isplitr; · iexact HR
  isplitl [HO]; · iexact HO
  isplitl [Ht1]; · iexact Ht1
  isplitl [Hb]; · iexact Hb
  iintro ⟨HO, Hs1⟩
  ihave Hsent := (show iprop(sentP BK BV c i.succ none ∗ sentP BK BV c i.succ (some 0) ∗ sentP BK BV c i.succ (some 1)) ⊢ sentH BK BV c i.succ from
    Entails.rfl) $$ [Hs Hs0 Hs1]
  · isplitl [Hs]; · iexact Hs
    isplitl [Hs0] <;> iassumption
  ihave Hl := (sent_slot BK BV c i.succ) $$ Hsent
  icases Hl with ⟨Hslot, Hback⟩
  iapply (wp_accIf BK BV qv c i.succ.castSucc i.val rfl fullShare.right)
  isplitl [Hslot]; · iexact Hslot
  isplitl [Hsum]; · iexact Hsum
  iintro ⟨Hslot, Hsum⟩
  iapply Hk
  isplitl [HO]; · iexact HO
  isplitl [Hz Hz0 Hz1]
  · isplitl [Hz]; · iexact Hz
    isplitl [Hz0] <;> iassumption
  isplitl [Hback Hslot]
  · iapply Hback; iexact Hslot
  iexact Hsum

/-- What holds before hop `n`. -/
def hopI (c : Dev nD) (n : ℕ) : sProp 𝕄 :=
  iprop(records BK BV K ∗ owing c (owedR c (3 * (n + 1))) ∗ bigSep (hopsFrom (n + 1)) (toSendH c) ∗ bigSep (hopsFrom n) (toRecvH c)
    ∗ bigSep (hopsTo n) (recvZero c) ∗ bigSep (hopsTo (n + 1)) (sentH BK BV c) ∗ sums BK BV qv c n)

theorem wp_hops (c : Dev nD) (Q : PUnit → sProp 𝕄) :
    iprop(hopI BK BV K qv c 0 ∗ (hopI BK BV K qv c 14 -∗ Q ⟨⟩)) ⊢ Wp c (each 14 (hop c qv)) Q := by
  refine wp_each c 14 (hop c qv) (hopI BK BV K qv c) (fun i Q => ?_) Q
  unfold hopI
  have e1 := from_succ i.succ (toSendH (F := F) c)
  have e2 := from_succ i.castSucc (toRecvH (F := F) c)
  have e3 := to_succ i.castSucc (recvZero (F := F) c)
  have e4 := to_succ i.succ (sentH BK BV c)
  rw [Fin.val_succ] at e1 e4; rw [Fin.val_castSucc] at e2 e3
  rw [e1, e2, e3, e4]
  iintro ⟨⟨#HR, HO, ⟨Ht, Hts⟩, ⟨Hw, Hws⟩, Hz, Hs, Hsum⟩, Hk⟩
  iapply (wp_hop BK BV K qv c i)
  isplitr; · iexact HR
  isplitl [HO]; · iexact HO
  isplitl [Ht]; · iexact Ht
  isplitl [Hw]; · iexact Hw
  isplitl [Hsum]; · iexact Hsum
  iintro ⟨HO, Hz1, Hs1, Hsum⟩
  iapply Hk
  isplitr; · iexact HR
  isplitl [HO]; · iexact HO
  isplitl [Hts]; · iexact Hts
  isplitl [Hws]; · iexact Hws
  isplitl [Hz Hz1]
  · isplitl [Hz1] <;> iassumption
  isplitl [Hs Hs1]
  · isplitl [Hs1] <;> iassumption
  iexact Hsum

theorem lastHop_eq (c : Dev nD) :
    lastHop c qv = (waitR 14 none >>= fun _ => waitR 14 (some 0) >>= fun _ => waitR 14 (some 1) >>= fun _ => accIf c qv 15) := rfl

/-- The last hop's landings and their block. -/
theorem wp_lastHop (c : Dev nD) (Q : PUnit → sProp 𝕄) :
    iprop(records BK BV K ∗ owing c (owedR c 45) ∗ toRecvH c 14 ∗ sums BK BV qv c 14
        ∗ ((owing c (owedR c 45) ∗ recvZero c 14 ∗ slotP BK BV c 15 fullShare ∗ sums BK BV qv c 15) -∗ Q ⟨⟩))
      ⊢ Wp c (lastHop c qv) Q := by
  rw [lastHop_eq]
  simp only [Wp_bind]
  unfold toRecvH recvZero parts
  iintro ⟨#HR, HO, ⟨Hw, Hw0, Hw1⟩, Hsum, Hk⟩
  iapply (wp_waitR BK BV K c 14 none 45 (by decide))
  isplitr; · iexact HR
  isplitl [HO]; · iexact HO
  isplitl [Hw]; · iexact Hw
  iintro ⟨HO, Hz, Hb⟩
  iapply (wp_waitR BK BV K c 14 (some 0) 45 (by decide))
  isplitr; · iexact HR
  isplitl [HO]; · iexact HO
  isplitl [Hw0]; · iexact Hw0
  iintro ⟨HO, Hz0, Hb0⟩
  iapply (wp_waitR BK BV K c 14 (some 1) 45 (by decide))
  isplitr; · iexact HR
  isplitl [HO]; · iexact HO
  isplitl [Hw1]; · iexact Hw1
  iintro ⟨HO, Hz1, Hb1⟩
  iapply (wp_accIf BK BV qv c 15 14 rfl fullShare)
  isplitl [Hb Hb0 Hb1]
  · iapply (show iprop(blkPiece BK BV c 15 none fullShare ∗ blkPiece BK BV c 15 (some 0) fullShare ∗ blkPiece BK BV c 15 (some 1) fullShare)
      ⊢ slotP BK BV c 15 fullShare from Entails.rfl)
    isplitl [Hb]; · iexact Hb
    isplitl [Hb0]; · iexact Hb0
    iexact Hb1
  isplitl [Hsum]; · iexact Hsum
  iintro ⟨Hslot, Hsum⟩
  iapply Hk
  isplitl [HO]; · iexact HO
  isplitl [Hz Hz0 Hz1]
  · isplitl [Hz]; · iexact Hz
    isplitl [Hz0] <;> iassumption
  isplitl [Hslot] <;> iassumption

theorem drain_eq (h : Fin 15) : drain (F := F) h = (waitS h none >>= fun _ => waitS h (some 0) >>= fun _ => waitS h (some 1)) := rfl

/-- The wait for one copy to leave, its slot whole again. -/
theorem wp_waitA (c : Dev nD) (h : Fin 15) (p : Part) (Q : PUnit → sProp 𝕄) :
    iprop(records BK BV K ∗ owing c (owedR c 45) ∗ sentP BK BV c h p
        ∗ ((owing c (owedR c 45) ∗ semVal (sendCell c (h, p)) 0 ∗ blkPiece BK BV c h.castSucc p fullShare) -∗ Q ⟨⟩))
      ⊢ Wp c (waitS h p) Q := by
  unfold sentP
  iintro ⟨#HR, HO, ⟨Hw, Hr⟩, Hk⟩
  iapply (wp_waitS BK BV K c h p 45)
  isplitr; · iexact HR
  isplitl [HO]; · iexact HO
  isplitl [Hw]; · iexact Hw
  iintro ⟨HO, Hz, Hl⟩
  iapply Hk
  isplitl [HO]; · iexact HO
  isplitl [Hz]; · iexact Hz
  iapply (piece_whole BK BV c h.castSucc p)
  isplitl [Hl] <;> iassumption

theorem wp_drain (c : Dev nD) (h : Fin 15) (Q : PUnit → sProp 𝕄) :
    iprop(records BK BV K ∗ owing c (owedR c 45) ∗ sentH BK BV c h ∗ ((owing c (owedR c 45) ∗ drained BK BV c h) -∗ Q ⟨⟩)) ⊢ Wp c (drain h) Q := by
  rw [drain_eq]
  simp only [Wp_bind]
  unfold sentH drained parts
  iintro ⟨#HR, HO, ⟨Hs, Hs0, Hs1⟩, Hk⟩
  iapply (wp_waitA BK BV K c h none)
  isplitr; · iexact HR
  isplitl [HO]; · iexact HO
  isplitl [Hs]; · iexact Hs
  iintro ⟨HO, Hb⟩
  iapply (wp_waitA BK BV K c h (some 0))
  isplitr; · iexact HR
  isplitl [HO]; · iexact HO
  isplitl [Hs0]; · iexact Hs0
  iintro ⟨HO, Hb0⟩
  iapply (wp_waitA BK BV K c h (some 1))
  isplitr; · iexact HR
  isplitl [HO]; · iexact HO
  isplitl [Hs1]; · iexact Hs1
  iintro ⟨HO, Hb1⟩
  iapply Hk
  isplitl [HO]; · iexact HO
  isplitl [Hb]; · iexact Hb
  isplitl [Hb0] <;> iassumption

/-- What holds before the waits of hop `n`'s copies. -/
def drainI (c : Dev nD) (n : ℕ) : sProp 𝕄 :=
  iprop(records BK BV K ∗ owing c (owedR c 45) ∗ bigSep (hopsFrom n) (sentH BK BV c) ∗ bigSep (hopsTo n) (drained BK BV c))

theorem wp_drains (c : Dev nD) (Q : PUnit → sProp 𝕄) :
    iprop(drainI BK BV K c 0 ∗ (drainI BK BV K c 15 -∗ Q ⟨⟩)) ⊢ Wp c (each 15 drain) Q := by
  refine wp_each c 15 drain (drainI BK BV K c) (fun h Q => ?_) Q
  unfold drainI
  rw [from_succ h (sentH BK BV c), to_succ h (drained BK BV c)]
  iintro ⟨⟨#HR, HO, ⟨Hs, Hss⟩, Hd⟩, Hk⟩
  iapply (wp_drain BK BV K c h)
  isplitr; · iexact HR
  isplitl [HO]; · iexact HO
  isplitl [Hs]; · iexact Hs
  iintro ⟨HO, Hb⟩
  iapply Hk
  isplitr; · iexact HR
  isplitl [HO]; · iexact HO
  isplitl [Hss]; · iexact Hss
  isplitl [Hb] <;> iassumption

end Cert.KernelIdeal.Pass

end
-- ==== Proof.KernelIdeal.BodyEq.lean ====
module

public import proofs.«01_k».proof.Proof.KernelIdeal.Steps

@[expose] public section

set_option maxRecDepth 16384

noncomputable section

namespace Cert.KernelIdeal.Pass

open Idealize.ShloMosaic Idealize.ShloMosaic.TcCoe Idealize.ShloMosaic.Tactic
open Idealize.SL Idealize.SL.Sem
open Cert.KernelIdeal.Gen

variable {F : FTy → Type} [FloatOps F] [Named F]

/-- What the body does once it has read that its device is `c`. -/
def atDevice (p : Pg F PUnit) (c : Dev nD) : Pg F PUnit :=
  match p with
  | .op .deviceId k => k c
  | p => p

/-- At every device the printed statements are the program over hops. -/
theorem atDevice_body (c : Dev nD) : atDevice (body : Pg F PUnit) c = rest c := by
  fin_cases c <;> sl_kernel_rfl

/-- The printed body reads its device and then runs the program over hops. -/
theorem body_eq : (body : Pg F PUnit) = .op .deviceId rest := by
  have h : (body : Pg F PUnit) = .op .deviceId (atDevice body) := by sl_kernel_rfl
  rw [h]
  exact congrArg _ (funext atDevice_body)

end Cert.KernelIdeal.Pass

end
-- ==== Proof.KernelIdeal.Body.lean ====
module

public import proofs.«01_k».proof.Proof.KernelIdeal.Hops
public import proofs.«01_k».proof.Proof.KernelIdeal.BodyEq

@[expose] public section

set_option maxRecDepth 16384

noncomputable section

/-!
The whole body on one device: what it needs, what it leaves, and its run.
-/

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (BK : Dev nD → Vec F S1x8x64x256 .fp8e4m3) (BV : Dev nD → Vec F S1x8x64x256 .bf16)
variable (K : Dev nD × Ck → ℕ)

/-! ## The two rings' buffers by slots -/

theorem slots_first (Φ : Fin 16 → sProp 𝕄) : (bigSep Finset.univ Φ : sProp 𝕄) = iprop(Φ 0 ∗ bigSep Finset.univ fun h : Fin 15 => Φ h.succ) := by
  rw [Fin.univ_succ, Finset.cons_eq_insert, BI.bigSep_insert (by simp), BI.bigSep_map]; rfl
theorem slots_last (Φ : Fin 16 → sProp 𝕄) :
    (bigSep Finset.univ Φ : sProp 𝕄) = iprop(Φ (Fin.last 15) ∗ bigSep Finset.univ fun h : Fin 15 => Φ h.castSucc) := by
  rw [Fin.univ_castSuccEmb, Finset.cons_eq_insert, BI.bigSep_insert (by simp [Fin.ext_iff]; omega), BI.bigSep_map]; rfl

/-- Both buffers whole are their sixteen slots, each in its three parts. -/
theorem buffers_eq (c : Dev nD) (fk : (cc0_scratch0 : Ref sig .tc).ty.Contents (Elt F)) (fv : (cc0_scratch1 : Ref sig .tc).ty.Contents (Elt F)) :
    (iprop(held c cc0_scratch0 fk ∗ held c cc0_scratch1 fv) : sProp 𝕄)
      = bigSep Finset.univ fun s : Fin 16 => parts fun p => piece c s p fullShare fk fv := by
  have h0 : (held c cc0_scratch0 fk : sProp 𝕄) = bigSep Finset.univ fun s : Fin 16 => piece c s none fullShare fk fv :=
    (Ring.pointsTo_blocks (ℓ := (c : Thread nD τ).loc cc0_scratch0) (q := fullShare) (fun s : Fin 16 => kSet s) kSet_disjoint kSet_cover fk).trans
      (bigSep_congr fun s _ => rfl)
  have h1 : (held c cc0_scratch1 fv : sProp 𝕄)
      = bigSep Finset.univ fun s : Fin 16 => iprop(piece c s (some 0) fullShare fk fv ∗ piece c s (some 1) fullShare fk fv) := by
    refine (Ring.pointsTo_blocks (ℓ := (c : Thread nD τ).loc cc0_scratch1) (q := fullShare) (fun s : Fin 16 × Fin 2 => vSet s.1 s.2) vSet_disjoint vSet_cover fv).trans ?_
    rw [bigSep_univ_prod]
    exact bigSep_congr fun s _ => bigSep_fin_two _
  rw [h0, h1, ← bigSep_sep']; rfl

theorem split_buffers (c : Dev nD) :
    (iprop((∃ f, held c cc0_scratch0 f) ∗ (∃ f, held c cc0_scratch1 f)) : sProp 𝕄)
      ⊢ iprop((∃ f, kHeld c 0 fullShare f) ∗ (∃ f, vHeld c 0 fullShare f) ∗ bigSep Finset.univ fun ch : Ch => anyPiece c ch.1.succ ch.2) := by
  have hv (fk) (fv : (cc0_scratch1 : Ref sig .tc).ty.Contents (Elt F)) :
      (iprop(piece c 0 (some 0) fullShare fk fv ∗ piece c 0 (some 1) fullShare fk fv) : sProp 𝕄) ⊢ vHeld c 0 fullShare fv := by
    unfold vHeld
    rw [slot_halves]
    exact (pointsTo_union (vSet_disjoint (0, 0) (0, 1) (by simp))).2
  have ha (fk fv) : (bigSep Finset.univ fun h : Fin 15 => parts fun p => (piece c h.succ p fullShare fk fv : sProp 𝕄))
      ⊢ bigSep Finset.univ fun ch : Ch => anyPiece c ch.1.succ ch.2 := by
    rw [← chs_eq (fun ch : Ch => piece c ch.1.succ ch.2 fullShare fk fv)]
    refine bigSep_mono fun ch _ => show (piece c ch.1.succ ch.2 fullShare fk fv : sProp 𝕄) ⊢ iprop(∃ fk fv, piece c ch.1.succ ch.2 fullShare fk fv) from ?_
    iintro H; iexists fk; iexists fv; iexact H
  iintro ⟨⟨%fk, HK⟩, ⟨%fv, HV⟩⟩
  ihave H := (Entails.of_eq ((buffers_eq c fk fv).trans (slots_first _))) $$ [HK HV]
  · isplitl [HK] <;> iassumption
  icases H with ⟨H0, H⟩
  unfold parts
  icases H0 with ⟨Hk, Hv⟩
  isplitl [Hk]; · iexists fk; iapply (show (piece c 0 none fullShare fk fv : sProp 𝕄) ⊢ kHeld c 0 fullShare fk from Entails.rfl); iexact Hk
  isplitl [Hv]; · iexists fv; iapply (hv fk fv); iexact Hv
  iapply (ha fk fv); iexact H

theorem join_buffers (c : Dev nD) :
    iprop(slotP BK BV c 15 fullShare ∗ bigSep Finset.univ fun ch : Ch => blkPiece BK BV c ch.1.castSucc ch.2 fullShare)
      ⊢ (iprop((∃ f, held c cc0_scratch0 f) ∗ (∃ f, held c cc0_scratch1 f)) : sProp 𝕄) := by
  rw [chs_eq]
  have h := (buffers_eq c (ringF BK c) (ringF BV c)).trans (slots_last _)
  refine (Entails.of_eq h.symm).trans ?_
  iintro ⟨HK, HV⟩
  isplitl [HK]
  · iexists _; iexact HK
  · iexists _; iexact HV

/-! ## The body -/

theorem bools_eq (Φ : Bool × Ch → sProp 𝕄) :
    (bigSep Finset.univ Φ : sProp 𝕄) = iprop((bigSep Finset.univ fun ch => Φ (false, ch)) ∗ bigSep Finset.univ fun ch => Φ (true, ch)) := by
  rw [bigSep_univ_prod, bigSep_univ_eq_bigSepL [false, true] (by decide) (by decide)]; rfl

/-- What stays with device `c` of the schedule: its places, and the duties it pays. -/
def linear (c : Dev nD) : sProp 𝕄 :=
  iprop(atPos ER (barCell c) 0 ∅ 0 ∗ (bigSep Finset.univ fun x : Bool × Ch => atPos ER (kcell (c, some x)) 0 ∅ 0)
    ∗ dutyTok ER (barCell (prv c)) 0 true ∗ dutyTok ER (barCell (nxt c)) 0 false
    ∗ (bigSep Finset.univ fun ch : Ch => dutyTok ER (sendCell c ch) 0 false)
    ∗ bigSep Finset.univ fun ch : Ch => dutyTok ER (recvCell (nxt c) ch) 0 false)

/-- The credit device `c` starts with: its barrier's two units and what lands on it. -/
def credits (c : Dev nD) : sProp 𝕄 :=
  iprop(cred (tallyAt (barCell c) () 2) ∗ bigSep Finset.univ fun ch : Ch => cred (tallyAt (recvCell c ch) () (amt ch.2)))

/-- The four scratch buffers, holding anything. -/
def scratch (c : Dev nD) : sProp 𝕄 :=
  iprop((∃ f, held c cc0_scratch0 f) ∗ (∃ f, held c cc0_scratch1 f) ∗ (∃ f, held c cc0_scratch2 f) ∗ (∃ f, held c cc0_scratch3 f))

/-- Every semaphore of device `c` at zero. -/
def semsZero (c : Dev nD) : sProp 𝕄 :=
  iprop(semVal (barCell c) 0 ∗ bigSep Finset.univ fun x : Bool × Ch => semVal (kcell (c, some x)) 0)

theorem gather (c : Dev nD) :
    (iprop((bigSep Finset.univ fun ch : Ch => atPos ER (sendCell c ch) 0 ∅ 0) ∗ (bigSep Finset.univ fun ch : Ch => dutyTok ER (sendCell c ch) 0 false)
        ∗ (bigSep Finset.univ fun ch : Ch => dutyTok ER (recvCell (nxt c) ch) 0 false) ∗ barPay c) : sProp 𝕄)
      ⊢ iprop(toSendH c 0 ∗ bigSep (hopsFrom 1) (toSendH c)) := by
  have h := from_succ 0 (toSendH (F := F) c)
  rw [show (0 : Fin 15).val = 0 from rfl, hopsFrom_zero, Nat.zero_add] at h
  rw [← h]
  unfold toSendH
  rw [← chs_eq (fun ch : Ch => iprop(toSend c ch.1 ch.2 ∗ atPos ER (sendCell c ch) 0 ∅ 0))]
  unfold toSend barPay
  rw [bigSep_sep', bigSep_sep', bigSep_sep']
  iintro ⟨Ha, Hs, Hr, Hb⟩
  isplitr [Ha]
  · isplitl [Hs]; · iexact Hs
    isplitl [Hr] <;> iassumption
  iexact Ha

theorem gather_recv (c : Dev nD) :
    (iprop((bigSep Finset.univ fun ch : Ch => atPos ER (recvCell c ch) 0 ∅ 0) ∗ bigSep Finset.univ fun ch : Ch => cred (tallyAt (recvCell c ch) () (amt ch.2))) : sProp 𝕄)
      ⊢ bigSep (hopsFrom 0) (toRecvH c) := by
  rw [hopsFrom_zero]
  unfold toRecvH
  rw [← chs_eq (fun ch : Ch => toWait c (true, ch))]
  unfold toWait
  rw [bigSep_sep']
  iintro ⟨Ha, Hc⟩
  isplitl [Hc] <;> iassumption

theorem zeros (c : Dev nD) : iprop(recvZero c 14 ∗ bigSep (hopsTo 14) (recvZero c)) ⊢ (bigSep Finset.univ fun ch : Ch => semVal (recvCell c ch) 0 : sProp 𝕄) := by
  have h := to_succ 14 (recvZero (F := F) c)
  rw [show (14 : Fin 15).val = 14 from rfl, show 14 + 1 = 15 from rfl, hopsTo_end] at h
  refine (Entails.of_eq h.symm).trans ?_
  unfold recvZero
  rw [← chs_eq (fun ch : Ch => semVal (recvCell c ch) 0)]

theorem drained_all (c : Dev nD) : (bigSep (hopsTo 15) (drained BK BV c) : sProp 𝕄)
    ⊢ iprop((bigSep Finset.univ fun ch : Ch => semVal (sendCell c ch) 0) ∗ bigSep Finset.univ fun ch : Ch => blkPiece BK BV c ch.1.castSucc ch.2 fullShare) := by
  rw [hopsTo_end]
  unfold drained
  rw [← chs_eq (fun ch : Ch => iprop(semVal (sendCell c ch) 0 ∗ blkPiece BK BV c ch.1.castSucc ch.2 fullShare)), bigSep_sep']

/-- The body after the first copies have been started. -/
def tail (c : Dev nD) : Pg F PUnit :=
  queries >>= fun q => clear >>= fun _ => accOwn q >>= fun _ => each 14 (hop c q) >>= fun _ => lastHop c q >>= fun _ => each 15 drain >>= fun _ => finish

theorem rest_eq (c : Dev nD) : rest (F := F) c = (handshake c >>= fun _ => fill >>= fun _ => sendP c 0 none >>= fun _ => sendP c 0 (some 0) >>= fun _ =>
    sendP c 0 (some 1) >>= fun _ => tail c) := rfl

variable (x : Vec F S2x256x512 .f32) (wq : Vec F S512x256 .f32) (kv vv : Vec F S2x256x4x64 .f32) (wo : Vec F S256x512 .f32)

/-- The inputs of device `c` in its pipeline buffers, and `o` in the result's. -/
def staged (c : Dev nD) (o : Vec F S2x256x512 .f32) : sProp 𝕄 :=
  iprop(held c cc0_stg0_0 x ∗ held c cc0_stg1_0 wq ∗ held c cc0_stg2_0 kv ∗ held c cc0_stg3_0 vv ∗ held c cc0_stg4_0 wo ∗ held c cc0_stg5_0 o)

/-- The result on device `c`: the quotient of the two sums after the last slot, times the output weights. -/
def result (c : Dev nD) : Vec F S2x256x512 .f32 := k0_pay58 (Ast BK BV (k0_pay4 x wq) c 15) (Lst BK (k0_pay4 x wq) c 15) wo

theorem wp_tail (c : Dev nD) (o : Vec F S2x256x512 .f32) (Q : PUnit → sProp 𝕄) :
    iprop(records BK BV K ∗ owing c (owedR c 3) ∗ sentH BK BV c 0 ∗ bigSep (hopsFrom 1) (toSendH c) ∗ bigSep (hopsFrom 0) (toRecvH c)
        ∗ ((∃ f, held c cc0_scratch2 f) ∗ (∃ f, held c cc0_scratch3 f)) ∗ staged x wq kv vv wo c o
        ∗ ((owing c 0 ∗ (bigSep Finset.univ fun x : Bool × Ch => semVal (kcell (c, some x)) 0) ∗ scratch c ∗ staged x wq kv vv wo c (result BK BV x wq wo c)) -∗ Q ⟨⟩))
      ⊢ Wp c (tail c) Q := by
  unfold tail staged
  simp only [Wp_bind]
  iintro ⟨#HR, HO, Hs0, Hsend, Hrecv, ⟨H2, H3⟩, ⟨Hx, Hwq, Hk, Hv, Hwo, Ho⟩, HQ⟩
  iapply (wp_queries c x wq)
  isplitl [Hx]; · iexact Hx
  isplitl [Hwq]; · iexact Hwq
  iintro ⟨Hx, Hwq⟩
  iapply (wp_clear c)
  isplitl [H2]; · iexact H2
  isplitl [H3]; · iexact H3
  iintro Hcl
  ihave Hl := (show sentH BK BV c 0 ⊢ iprop(slotP BK BV c 0 fullShare.right ∗ (slotP BK BV c 0 fullShare.right -∗ sentH BK BV c 0)) from
    sent_slot BK BV c 0) $$ Hs0
  icases Hl with ⟨Hslot, Hback⟩
  iapply (wp_accOwn BK BV (k0_pay4 x wq) c fullShare.right)
  isplitl [Hslot]; · iexact Hslot
  isplitl [Hcl]; · iexact Hcl
  iintro ⟨Hslot, Hsum⟩
  ihave Hs0 := Hback $$ Hslot
  iapply (wp_hops BK BV K (k0_pay4 x wq) c)
  isplitl [HO Hs0 Hsend Hrecv Hsum]
  · iapply (show iprop(records BK BV K ∗ owing c (owedR c 3) ∗ bigSep (hopsFrom 1) (toSendH c) ∗ bigSep (hopsFrom 0) (toRecvH c)
        ∗ sentH BK BV c 0 ∗ sums BK BV (k0_pay4 x wq) c 0) ⊢ hopI BK BV K (k0_pay4 x wq) c 0 from by
      unfold hopI
      have e := to_succ 0 (sentH BK BV c)
      rw [show (0 : Fin 15).val = 0 from rfl, hopsTo_zero, BI.bigSep_empty] at e
      rw [e, hopsTo_zero, BI.bigSep_empty]
      iintro ⟨#HR, HO, Hsend, Hrecv, Hs0, Hsum⟩
      isplitr; · iexact HR
      isplitl [HO]; · iexact HO
      isplitl [Hsend]; · iexact Hsend
      isplitl [Hrecv]; · iexact Hrecv
      isplitr; · iempintro
      isplitl [Hs0]
      · isplitl [Hs0]; · iexact Hs0
        iempintro
      iexact Hsum)
    isplitr; · iexact HR
    isplitl [HO]; · iexact HO
    isplitl [Hsend]; · iexact Hsend
    isplitl [Hrecv]; · iexact Hrecv
    isplitl [Hs0] <;> iassumption
  iintro HI
  ihave HI := (show hopI BK BV K (k0_pay4 x wq) c 14 ⊢ iprop(owing c (owedR c 45) ∗ toRecvH c 14 ∗ bigSep (hopsTo 14) (recvZero c)
      ∗ bigSep (hopsFrom 0) (sentH BK BV c) ∗ sums BK BV (k0_pay4 x wq) c 14) from by
    unfold hopI
    have e := from_succ 14 (toRecvH (F := F) c)
    rw [show (14 : Fin 15).val = 14 from rfl, show 14 + 1 = 15 from rfl, hopsFrom_end, BI.bigSep_empty] at e
    rw [e, show 14 + 1 = 15 from rfl, hopsTo_end, hopsFrom_zero]
    iintro ⟨-, HO, -, ⟨Hr, -⟩, Hz, Hs, Hsum⟩
    isplitl [HO]; · iexact HO
    isplitl [Hr]; · iexact Hr
    isplitl [Hz]; · iexact Hz
    isplitl [Hs] <;> iassumption) $$ HI
  icases HI with ⟨HO, Hr, Hz, Hs, Hsum⟩
  iapply (wp_lastHop BK BV K (k0_pay4 x wq) c)
  isplitr; · iexact HR
  isplitl [HO]; · iexact HO
  isplitl [Hr]; · iexact Hr
  isplitl [Hsum]; · iexact Hsum
  iintro ⟨HO, Hz14, Hslot, Hsum⟩
  iapply (wp_drains BK BV K c)
  isplitl [HO Hs]
  · unfold drainI
    rw [hopsTo_zero, BI.bigSep_empty]
    isplitr; · iexact HR
    isplitl [HO]; · iexact HO
    isplitl [Hs]; · iexact Hs
    iempintro
  unfold drainI sums
  iintro ⟨-, HO, -, Hd⟩
  icases Hsum with ⟨Hl, Ha⟩
  iapply (wp_finish c (Lst BK (k0_pay4 x wq) c 15) (Ast BK BV (k0_pay4 x wq) c 15) wo o)
  isplitl [Hl]; · iexact Hl
  isplitl [Ha]; · iexact Ha
  isplitl [Hwo]; · iexact Hwo
  isplitl [Ho]; · iexact Ho
  iintro ⟨Hl, Ha, Hwo, Ho⟩
  ihave Hd := (drained_all BK BV c) $$ Hd
  icases Hd with ⟨Hsz, Hblk⟩
  ihave Hbuf := (join_buffers BK BV c) $$ [Hslot Hblk]
  · isplitl [Hslot] <;> iassumption
  icases Hbuf with ⟨HK, HV⟩
  iapply HQ
  isplitl [HO]; · iapply (Entails.of_eq (congrArg (owing c) (owedR_end c))); iexact HO
  isplitl [Hz Hz14 Hsz]
  · iapply (Entails.of_eq (bools_eq fun x : Bool × Ch => semVal (kcell (c, some x)) 0).symm)
    isplitl [Hsz]; · iexact Hsz
    iapply (zeros c)
    isplitl [Hz14] <;> iassumption
  isplitl [HK HV Hl Ha]
  · unfold scratch
    isplitl [HK]; · iexact HK
    isplitl [HV]; · iexact HV
    isplitl [Hl]
    · iexists _; iexact Hl
    · iexists _; iexact Ha
  isplitl [Hx]; · iexact Hx
  isplitl [Hwq]; · iexact Hwq
  isplitl [Hk]; · iexact Hk
  isplitl [Hv]; · iexact Hv
  isplitl [Hwo]; · iexact Hwo
  iexact Ho

/-- The whole body on device `c`: it leaves its result in the result's buffer, every semaphore at zero and nothing owed. -/
theorem wp_body (c : Dev nD) (hK : BK c = k0_pay1 kv) (hV : BV c = k0_pay3 (k0_pay2 vv)) (o : Vec F S2x256x512 .f32) (Q : PUnit → sProp 𝕄) :
    iprop(records BK BV K ∗ owing c (O₀ c) ∗ linear c ∗ credits c ∗ scratch c ∗ staged x wq kv vv wo c o
        ∗ ((owing c 0 ∗ semsZero c ∗ scratch c ∗ staged x wq kv vv wo c (result BK BV x wq wo c)) -∗ Q ⟨⟩))
      ⊢ Wp c body Q := by
  rw [body_eq]
  unfold Wp
  rw [wp_deviceId]
  refine BIBase.Entails.trans ?_ (Entails.of_eq (show Wp c (rest c) Q = _ from rfl))
  rw [rest_eq]
  simp only [Wp_bind]
  unfold linear credits scratch semsZero
  iintro ⟨#HR, HO, ⟨HaB, Hat, HtP, HtN, HtS, HtR⟩, ⟨HcB, HcR⟩, ⟨H0, H1, H2, H3⟩, Hst, HQ⟩
  ihave Hat := (Entails.of_eq (bools_eq fun x : Bool × Ch => atPos ER (kcell (c, some x)) 0 ∅ 0)) $$ Hat
  icases Hat with ⟨HaS, HaR⟩
  ihave Hb := (split_buffers (F := F) c) $$ [H0 H1]
  · isplitl [H0] <;> iassumption
  icases Hb with ⟨HK0, HV0, Hland⟩
  iapply (wp_handshake BK BV K c)
  isplitr; · iexact HR
  isplitl [HO]; · iexact HO
  isplitl [HtP]; · iexact HtP
  isplitl [HtN]; · iexact HtN
  isplitl [Hland]; · iexact Hland
  isplitl [HcB]; · iexact HcB
  isplitl [HaB]; · iexact HaB
  iintro ⟨HO, HzB, HpB⟩
  unfold staged
  icases Hst with ⟨Hx, Hwq, Hk, Hv, Hwo, Ho⟩
  iapply (wp_fill BK BV c kv vv hK hV)
  isplitl [Hk]; · iexact Hk
  isplitl [Hv]; · iexact Hv
  isplitl [HK0]; · iexact HK0
  isplitl [HV0]; · iexact HV0
  iintro ⟨Hk, Hv, Hslot⟩
  ihave Hg := (gather (F := F) c) $$ [HaS HtS HtR HpB]
  · isplitl [HaS]; · iexact HaS
    isplitl [HtS]; · iexact HtS
    isplitl [HtR] <;> iassumption
  icases Hg with ⟨Ht0, Hts⟩
  ihave Hrecv := (gather_recv (F := F) c) $$ [HaR HcR]
  · isplitl [HaR] <;> iassumption
  have hf := wp_first BK BV K c Q (tail c)
  simp only [Wp_bind] at hf
  iapply hf
  isplitr; · iexact HR
  isplitl [HO]; · iexact HO
  isplitl [Ht0]; · iexact Ht0
  isplitl [Hslot]; · iexact Hslot
  iintro ⟨HO, Hs0⟩
  iapply (wp_tail BK BV K x wq kv vv wo c o)
  isplitr; · iexact HR
  isplitl [HO]; · iexact HO
  isplitl [Hs0]; · iexact Hs0
  isplitl [Hts]; · iexact Hts
  isplitl [Hrecv]; · iexact Hrecv
  isplitl [H2 H3]
  · isplitl [H2] <;> iassumption
  unfold staged scratch
  isplitl [Hx Hwq Hk Hv Hwo Ho]
  · isplitl [Hx]; · iexact Hx
    isplitl [Hwq]; · iexact Hwq
    isplitl [Hk]; · iexact Hk
    isplitl [Hv]; · iexact Hv
    isplitl [Hwo]; · iexact Hwo
    iexact Ho
  iintro ⟨HO, Hz, Hscr, Hst⟩
  iapply HQ
  isplitl [HO]; · iexact HO
  isplitl [HzB Hz]
  · isplitl [HzB] <;> iassumption
  isplitl [Hscr] <;> iassumption

end Cert.KernelIdeal.Pass

end
-- ==== Proof.KernelIdeal.Start.lean ====
module

public import proofs.«01_k».proof.Proof.KernelIdeal.Body
public import Idealize.ShloMosaic.Lib.Pipeline.Launch
public import Idealize.ShloMosaic.Lib.Pipeline.Kit

@[expose] public section

set_option maxRecDepth 16384

noncomputable section

/-!
The launch's share of the schedule: the agreements made for every device at once, the duties dealt around the ring, and
the credit each device starts with.
-/

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (BK : Dev nD → Vec F S1x8x64x256 .fp8e4m3) (BV : Dev nD → Vec F S1x8x64x256 .bf16)

/-- A family over an option type is its first member and the rest. -/
theorem bigSep_opt {I : Type} [Fintype I] [DecidableEq I] (Φ : Option I → sProp 𝕄) :
    (bigSep Finset.univ Φ : sProp 𝕄) = iprop(Φ none ∗ bigSep Finset.univ fun i => Φ (some i)) := by
  rw [show (Finset.univ : Finset (Option I)) = insert none (Finset.univ.map Function.Embedding.some) from by
    ext o; cases o <;> simp, BI.bigSep_insert (by simp), BI.bigSep_map]; rfl

/-! ## The semaphores and the duties -/

/-- All the semaphores of the schedule. -/
def ringCells : Finset (GSem nD τ sig) := Finset.univ.map ⟨kcell, kcell_injective⟩

/-- A duty: the left neighbour's barrier unit, or the one duty every semaphore has. -/
def tokOf (x : Dev nD × Option Ck) : GSem nD τ sig × ℕ × Bool :=
  match x.2 with
  | none => (barCell x.1, 0, true)
  | some k => (kcell (x.1, k), 0, false)

theorem tokOf_injective : Function.Injective tokOf := by
  rintro ⟨c, _ | k⟩ ⟨d, _ | l⟩ h
  · have h1 : ((c, none) : Dev nD × Ck) = (d, none) := kcell_injective (congrArg Prod.fst h)
    rw [(Prod.mk.inj h1).1]
  · exact absurd (congrArg (fun x : GSem nD τ sig × ℕ × Bool => x.2.2) h) Bool.noConfusion
  · exact absurd (congrArg (fun x : GSem nD τ sig × ℕ × Bool => x.2.2) h) Bool.noConfusion
  · have h1 : ((c, k) : Dev nD × Ck) = (d, l) := kcell_injective (congrArg Prod.fst h)
    rw [(Prod.mk.inj h1).1, (Prod.mk.inj h1).2]

/-- All the duties of the schedule. -/
def ringToks : Finset (GSem nD τ sig × ℕ × Bool) := Finset.univ.map ⟨tokOf, tokOf_injective⟩

/-- The duties paid to device `c`'s own semaphores. -/
def toks (c : Dev nD) : sProp 𝕄 :=
  iprop(dutyTok ER (barCell c) 0 true ∗ dutyTok ER (barCell c) 0 false
    ∗ (bigSep Finset.univ fun ch : Ch => dutyTok ER (sendCell c ch) 0 false) ∗ bigSep Finset.univ fun ch : Ch => dutyTok ER (recvCell c ch) 0 false)

/-- What the start deals device `c`: the state of its semaphores, its places, that the round has begun, its semaphores' duties. -/
def G (c : Dev nD) : sProp 𝕄 :=
  iprop((bigSep Finset.univ fun k : Ck => roundState ER (ringRd BK BV) (kcell (c, k)) 0)
    ∗ (bigSep Finset.univ fun k : Ck => atPos ER (kcell (c, k)) 0 ∅ 0) ∗ (bigSep Finset.univ fun k : Ck => reached ER (kcell (c, k)) 0) ∗ toks c)

theorem fund_ring : BI.own (ER (initOf ringCells ringToks)) ⊢ (|==> bigSep Finset.univ (G BK BV) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_opt, bigSep_opt, bools_eq]; rfl
  iintro HX
  imod (Rounds.fund ER (ringRd BK BV) ringCells ringToks) $$ HX with ⟨Hst, Hr, Hat, Htok⟩
  imodintro
  ihave Hst := (Entails.of_eq (hX fun g => roundState ER (ringRd BK BV) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-- The barrier semaphore is the only one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- Every semaphore of device `c` at zero, as the launch counts them. -/
theorem semsZero_eq (c : Dev nD) :
    (semsZero c : sProp 𝕄) = iprop(unscopedSems0 c ∗ Pipeline.ownSems0 (Ix := Unit) (Name := ℕ) (U := UU) (Lvl := ℕ) (Val := Elt F) (τ := τ) osem c) := by
  rw [unscopedSems0_eq]; rfl

/-- What is known to all once the agreements are made at the names `K`. -/
def marks (K : Dev nD × Ck → ℕ) : sProp 𝕄 :=
  iprop((bigSep Finset.univ fun ck : Dev nD × Ck => cellInv ER (ringRd BK BV) (K ck) (kcell ck))
    ∗ bigSep Finset.univ fun ck : Dev nD × Ck => reached ER (kcell ck) 0)

instance marks_persistent (K : Dev nD × Ck → ℕ) : BI.Persistent (marks BK BV K) := by unfold marks; infer_instance

/-- What device `c` has after that. -/
def G' (c : Dev nD) : sProp 𝕄 := iprop(∃ K, marks BK BV K ∗ linear c)

/-- One device's semaphores put under their agreements. -/
theorem core_alloc (c : Dev nD) :
    iprop(Pipeline.ownSems0 (Ix := Unit) (Name := ℕ) (U := UU) (Lvl := ℕ) (Val := Elt F) (τ := τ) osem c ∗ unscopedSems0 c ∗ G BK BV c)
      ⊢ |={Set.univ}=> iprop((bigSep Finset.univ fun k : Ck => iprop(∃ κ : ℕ, cellInv ER (ringRd BK BV) κ (kcell (c, k))))
          ∗ (bigSep Finset.univ fun k : Ck => atPos ER (kcell (c, k)) 0 ∅ 0) ∗ (bigSep Finset.univ fun k : Ck => reached ER (kcell (c, k)) 0) ∗ toks c) := by
  have hz : (iprop(Pipeline.ownSems0 (Ix := Unit) (Name := ℕ) (U := UU) (Lvl := ℕ) (Val := Elt F) (τ := τ) osem c ∗ unscopedSems0 c) : sProp 𝕄)
      ⊢ bigSep Finset.univ fun k : Ck => semVal (kcell (c, k)) 0 := by
    rw [bigSep_opt]
    refine sep_comm.1.trans ((Entails.of_eq (semsZero_eq c).symm).trans ?_)
    unfold semsZero; exact Entails.rfl
  have ha : iprop((bigSep Finset.univ fun k : Ck => semVal (kcell (c, k)) 0) ∗ bigSep Finset.univ fun k : Ck => roundState ER (ringRd BK BV) (kcell (c, k)) 0)
      ⊢ (|={Set.univ}=> bigSep Finset.univ fun k : Ck => iprop(∃ κ : ℕ, cellInv ER (ringRd BK BV) κ (kcell (c, k))) : sProp 𝕄) := by
    rw [← bigSep_sep']
    exact (bigSep_mono fun k _ => (Rounds.body_intro ER (ringRd BK BV) (kcell (c, k))).trans inv_alloc).trans (bigSep_fupd _ _)
  unfold G
  iintro ⟨Hos, Hus, Hst, Hat, Hr, Htok⟩
  ihave Hv := hz $$ [Hos Hus]
  · isplitl [Hos] <;> iassumption
  imod ha $$ [Hv Hst] with Hinv
  · isplitl [Hv] <;> iassumption
  imodintro
  isplitl [Hinv]; · iexact Hinv
  isplitl [Hat]; · iexact Hat
  isplitl [Hr] <;> iassumption

/-- The ring as a permutation of the devices. -/
def ringE : Dev nD ≃ Dev nD := ⟨nxt, prv, prv_nxt, nxt_prv⟩

/-- The duties device `c` pays. -/
def payToks (c : Dev nD) : sProp 𝕄 :=
  iprop(dutyTok ER (barCell (prv c)) 0 true ∗ dutyTok ER (barCell (nxt c)) 0 false
    ∗ (bigSep Finset.univ fun ch : Ch => dutyTok ER (sendCell c ch) 0 false) ∗ bigSep Finset.univ fun ch : Ch => dutyTok ER (recvCell (nxt c) ch) 0 false)

/-- The duties dealt around the ring: each device gets those it pays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ringE.symm (fun c : Dev nD => (dutyTok ER (barCell c) 0 true : sProp 𝕄)),
    bigSep_univ_equiv ringE (fun c : Dev nD => (dutyTok ER (barCell c) 0 false : sProp 𝕄)),
    bigSep_univ_equiv ringE (fun c : Dev nD => (bigSep Finset.univ fun ch : Ch => dutyTok ER (recvCell c ch) 0 false : sProp 𝕄))]
  exact Entails.rfl

/-- Something known to all can be handed to each. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (ringRd BK BV) κ (kcell (c, k))))
          ∗ (bigSep Finset.univ fun k : Ck => atPos ER (kcell (c, k)) 0 ∅ 0) ∗ (bigSep Finset.univ fun k : Ck => reached ER (kcell (c, k)) 0) ∗ toks c) : sProp 𝕄)
      ⊢ bigSep Finset.univ (G' BK BV) := by
  have hl (c : Dev nD) : (iprop((bigSep Finset.univ fun k : Ck => atPos ER (kcell (c, k)) 0 ∅ 0) ∗ payToks c) : sProp 𝕄) ⊢ linear c := by
    unfold linear payToks
    rw [bigSep_opt]
    iintro ⟨⟨HB, Hat⟩, H1, H2, H3, H4⟩
    isplitl [HB]; · iexact HB
    isplitl [Hat]; · iexact Hat
    isplitl [H1]; · iexact H1
    isplitl [H2]; · iexact H2
    isplitl [H3] <;> iassumption
  rw [bigSep_sep', bigSep_sep', bigSep_sep', ← bigSep_univ_prod (fun ck : Dev nD × Ck => iprop(∃ κ : ℕ, cellInv ER (ringRd BK BV) κ (kcell ck))),
    ← bigSep_univ_prod (fun ck : Dev nD × Ck => (reached ER (kcell ck) 0 : sProp 𝕄))]
  iintro ⟨HI, Hat, #HR, Htok⟩
  ihave HK := (BI.bigSep_exists_pi Finset.univ (fun (ck : Dev nD × Ck) (κ : ℕ) => (cellInv ER (ringRd BK BV) κ (kcell ck) : sProp 𝕄))) $$ HI
  icases HK with ⟨%K, #HI⟩
  ihave Htk := (toks_around (F := F)) $$ Htok
  iapply (bigSep_with (R := marks BK BV K) (Φ := fun c => linear c) (Ψ := G' BK BV) fun c _ =>
    show iprop(marks BK BV K ∗ linear c) ⊢ iprop(∃ K, marks BK BV K ∗ linear c) from by iintro H; iexists K; iexact H)
  isplitr
  · unfold marks; isplitl; · iexact HI
    iexact HR
  iapply ((Entails.of_eq (bigSep_sep' Finset.univ (fun c : Dev nD => bigSep Finset.univ fun k : Ck => (atPos ER (kcell (c, k)) 0 ∅ 0 : sProp 𝕄)) payToks).symm).trans
    (bigSep_mono fun c _ => hl c))
  isplitl [Hat] <;> iassumption

/-- All the devices' semaphores at once. -/
theorem glob : (bigSep Finset.univ fun c => iprop(Pipeline.ownSems0 (Ix := Unit) (Name := ℕ) (U := UU) (Lvl := ℕ) (Val := Elt F) (τ := τ) osem c
      ∗ unscopedSems0 c ∗ G BK BV c) : sProp 𝕄) ⊢ |={Set.univ}=> bigSep Finset.univ (G' BK BV) :=
  ((bigSep_mono fun c _ => core_alloc BK BV c).trans (bigSep_fupd _ _)).trans (BI.fupd_mono (regroup BK BV))

/-! ## The credit at launch -/

theorem kcell_iff {a b : Dev nD} {k l : Ck} : Iff (kcell (a, k) = kcell (b, l)) (a = b ∧ k = l) :=
  ⟨fun h => Prod.mk.inj (kcell_injective h), fun h => by rw [h.1, h.2]⟩

/-- What device `d` owes at the launch to a semaphore of device `c`. -/
theorem owed_bar (d c : Dev nD) : O₀ d (barCell c) () = (if d = prv c then 1 else 0) + (if d = nxt c then 1 else 0) := by
  have h0 : owedR d 0 (barCell c) () = 0 := by
    unfold owedR
    rw [Finset.sum_apply, Finsupp.finset_sum_apply]
    refine Finset.sum_eq_zero fun ch _ => ?_
    rw [tallyAt_apply, if_neg]
    rintro ⟨h, -⟩
    exact absurd (kcell_iff.mp h).2 (by simp)
  unfold O₀ O₁
  rw [Pi.add_apply, Finsupp.add_apply, Pi.add_apply, Finsupp.add_apply, h0, Nat.zero_add, tallyAt_apply, tallyAt_apply]
  refine congrArg₂ (· + ·) ?_ ?_
  · refine if_congr ⟨fun h => ?_, fun h => ?_⟩ rfl rfl
    · rw [(kcell_iff.mp h.1).1, prv_nxt]
    · rw [h, nxt_prv]; exact ⟨rfl, rfl⟩
  · refine if_congr ⟨fun h => ?_, fun h => ?_⟩ rfl rfl
    · rw [(kcell_iff.mp h.1).1, nxt_prv]
    · rw [h, prv_nxt]; exact ⟨rfl, rfl⟩

theorem owed_recv (d c : Dev nD) (ch : Ch) : O₀ d (recvCell c ch) () = if d = prv c then amt ch.2 else 0 := by
  have hb (e : Dev nD) : tallyAt (barCell e) () 1 (recvCell c ch) () = 0 := by
    rw [tallyAt_apply, if_neg]
    rintro ⟨h, -⟩
    exact absurd (kcell_iff.mp h).2 (by simp)
  unfold O₀ O₁ owedR
  rw [Pi.add_apply, Finsupp.add_apply, Pi.add_apply, Finsupp.add_apply, hb, hb, Nat.add_zero, fromCh_zero, Finset.sum_apply,
    Finsupp.finset_sum_apply, Finset.sum_eq_single ch]
  · rw [tallyAt_apply]
    refine if_congr ⟨fun h => ?_, fun h => ?_⟩ rfl rfl
    · rw [(kcell_iff.mp h.1).1, prv_nxt]
    · rw [h, nxt_prv]; exact ⟨rfl, rfl⟩
  · intro ch' _ hne
    rw [tallyAt_apply, if_neg]
    rintro ⟨h, -⟩
    have h2 := (kcell_iff.mp h).2
    exact hne (Prod.mk.inj (Option.some.inj h2)).2.symm
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (ch : Ch) :
    tallyOn (recvCell c ch) (launchCredit (Pipeline.owing O₀) 0 (recvCell c ch)) = (tallyAt (recvCell c ch) () (amt ch.2) : CellTallies nD τ sig Unit) := by
  unfold tallyAt; refine congrArg _ (Finsupp.ext fun u => ?_); cases u
  rw [Pipeline.launchCredit_owing, Finsupp.single_eq_same, Finset.sum_congr rfl fun d _ => owed_recv d c ch,
    Finset.sum_ite_eq' Finset.univ (prv c) fun _ => amt ch.2, if_pos (Finset.mem_univ _)]

theorem creds (c : Dev nD) : (Pipeline.launchCred O₀ c : sProp 𝕄) ⊢ credits c := by
  unfold Pipeline.launchCred credits
  refine (BI.bigSep_subset (Finset.subset_univ (Finset.univ.map ⟨csem, csem_injective⟩))).trans ?_
  rw [BI.bigSep_map, bigSep_opt, bools_eq]
  refine BIClass.sep_mono (Entails.of_eq (congrArg cred (launch_bar c))) ?_
  iintro ⟨-, H⟩
  iapply (Entails.of_eq (bigSep_congr fun ch _ => congrArg cred (launch_recv c ch)))
  iexact H

end Cert.KernelIdeal.Pass

end
-- ==== Proof.KernelIdeal.Launch.lean ====
module

public import proofs.«01_k».proof.Proof.KernelIdeal.Start
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.Value

@[expose] public section

set_option maxRecDepth 16384

noncomputable section

/-!
The launch: sixteen devices started together, every run ends, and where each device's arrays and semaphores are then.
-/

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The state at the launch. -/
def s₀ : MemSt nD τ sig (Elt F) := ⟨m, fun _ => 0, ρ⟩

/-- What the pipeline brings device `c` of each argument. -/
def xAt (c : Dev nD) : (cc0_stg0_0 : Ref sig .tc).ty.Contents (Elt F) := (win0_0.blk (0 : Fin 1)).view.read (Elt F) (m ((c : Thread nD τ).loc main_arg0))
def wqAt (c : Dev nD) : (cc0_stg1_0 : Ref sig .tc).ty.Contents (Elt F) := (win0_1.blk (0 : Fin 1)).view.read (Elt F) (m ((c : Thread nD τ).loc main_arg1))
def kAt (c : Dev nD) : (cc0_stg2_0 : Ref sig .tc).ty.Contents (Elt F) := (win0_2.blk (0 : Fin 1)).view.read (Elt F) (m ((c : Thread nD τ).loc main_arg2))
def vAt (c : Dev nD) : (cc0_stg3_0 : Ref sig .tc).ty.Contents (Elt F) := (win0_3.blk (0 : Fin 1)).view.read (Elt F) (m ((c : Thread nD τ).loc main_arg3))
def woAt (c : Dev nD) : (cc0_stg4_0 : Ref sig .tc).ty.Contents (Elt F) := (win0_4.blk (0 : Fin 1)).view.read (Elt F) (m ((c : Thread nD τ).loc main_arg4))

/-- The key block and the value block device `d` sends around the ring. -/
def BKm (d : Dev nD) : Vec F S1x8x64x256 .fp8e4m3 := k0_pay1 (kAt m d)
def BVm (d : Dev nD) : Vec F S1x8x64x256 .bf16 := k0_pay3 (k0_pay2 (vAt m d))

/-- The result device `c` computes. -/
def outAt (c : Dev nD) : (cc0_stg5_0 : Ref sig .tc).ty.Contents (Elt F) := result (BKm m) (BVm m) (xAt m c) (wqAt m c) (woAt m c) c

/-- What device `c` has before its body: the agreements, its places and duties, its credit, the levels. -/
def start (c : Dev nD) : sProp 𝕄 := iprop(∃ K, records (BKm m) (BVm m) K ∗ linear c ∗ credits c)

def Φ₀ (c : Dev nD) : sProp 𝕄 := iprop(start m c ∗ scratch c)
def Φ₁ (c : Dev nD) : sProp 𝕄 := iprop(semsZero c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wqAt m c
    | ⟨2, _⟩ => kAt m c
    | ⟨3, _⟩ => vAt m c
    | ⟨4, _⟩ => woAt m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

/-- A whole staging buffer owned at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xAt m c) ∗ stg c cc0_stg1_0 (wqAt m c)
    ∗ stg c cc0_stg2_0 (kAt m c) ∗ stg c cc0_stg3_0 (vAt m c) ∗ stg c cc0_stg4_0 (woAt m c) ∗ stg c cc0_stg5_0 (outAt m c))

theorem before_0 (c : Dev nD) d : (dats m ρ 0 c).before (0 : Fin 6) t0_0 d = xAt m c := by unfold Dat.before; rw [if_pos (fetch0_0 t0_0)]; rfl
theorem before_1 (c : Dev nD) d : (dats m ρ 0 c).before (1 : Fin 6) t0_0 d = wqAt m c := by unfold Dat.before; rw [if_pos (fetch0_1 t0_0)]; rfl
theorem before_2 (c : Dev nD) d : (dats m ρ 0 c).before (2 : Fin 6) t0_0 d = kAt m c := by unfold Dat.before; rw [if_pos (fetch0_2 t0_0)]; rfl
theorem before_3 (c : Dev nD) d : (dats m ρ 0 c).before (3 : Fin 6) t0_0 d = vAt m c := by unfold Dat.before; rw [if_pos (fetch0_3 t0_0)]; rfl
theorem before_4 (c : Dev nD) d : (dats m ρ 0 c).before (4 : Fin 6) t0_0 d = woAt m c := by unfold Dat.before; rw [if_pos (fetch0_4 t0_0)]; rfl

/-- The body on device `c`, from what the pipeline gives it to what the pipeline wants back. -/
theorem body_runs (c : Dev nD) : bodyPre m ρ c ⊢ Wp c body fun _ => bodyPost m ρ c := by
  unfold bodyPre Φ₀ start
  simp only [before_0, before_1, before_2, before_3, before_4]
  iintro ⟨⟨⟨%K, HR, Hlin, Hcr⟩, Hscr⟩, HO, ⟨%_, %f0, %e0, H0⟩, ⟨%_, %f1, %e1, H1⟩, ⟨%_, %f2, %e2, H2⟩, ⟨%_, %f3, %e3, H3⟩, ⟨%_, %f4, %e4, H4⟩, ⟨%_, %f5, %e5, H5⟩⟩
  subst e0 e1 e2 e3 e4
  unfold Dat.owesAt Pipeline.owesWithin
  icases HO with ⟨%W, -, HO⟩
  iapply (wp_body (BKm m) (BVm m) K (xAt m c) (wqAt m c) (kAt m c) (vAt m c) (woAt m c) c rfl rfl f5 fun _ => bodyPost m ρ c)
  isplitl [HR]; · iexact HR
  isplitl [HO]
  · unfold owing; iexists W; iexact HO
  isplitl [Hlin]; · iexact Hlin
  isplitl [Hcr]; · iexact Hcr
  isplitl [Hscr]; · iexact Hscr
  unfold staged held
  isplitl [H0 H1 H2 H3 H4 H5]
  · isplitl [H0]; · iexact H0
    isplitl [H1]; · iexact H1
    isplitl [H2]; · iexact H2
    isplitl [H3]; · iexact H3
    isplitl [H4]; · iexact H4
    iexact H5
  unfold owing
  iintro ⟨⟨%W', HO⟩, Hz, Hscr, H0, H1, H2, H3, H4, H5⟩
  unfold bodyPost Φ₁
  isplitl [Hz Hscr]
  · isplitl [Hz] <;> iassumption
  isplitl [HO]
  · unfold Dat.owesAt Pipeline.owesWithin
    iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

/-- What the pipeline asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_runs m ρ c

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (BKm m) (BVm m) c)
      ⊢ |={Set.univ}=> iprop(start m c ∗ emp) := by
  unfold G' marks start records
  iintro ⟨-, Hlev, Hcr, -, ⟨%K, ⟨H1, H2⟩, HG⟩⟩
  ihave Hc := (creds (F := F) c) $$ Hcr
  imodintro
  isplitl
  · iexists K
    isplitl [H1 H2 Hlev]
    · isplitl [H1]; · iexact H1
      isplitl [H2] <;> iassumption
    isplitl [HG] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  unfold scratch held
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [semsZero_eq]
  iintro ⟨⟨Hu, Ho⟩, Hr⟩
  isplitl [Hu]; · iexact Hu
  isplitl [Ho]; · iexact Ho
  unfold scratch held
  iexact Hr

/-- No semaphore of the staging buffers is one of the schedule's. -/
theorem rank_stage (w : Fin cfg0.W) (s : Fin (cfg0.win w).nbuf) : rank (decode (SemLoc.dma ((cfg0.win w).sem s))) = 0 := by
  have h : ¬ ∃ k, csem k = SemLoc.dma ((cfg0.win w).sem s) := by
    rintro ⟨k, hk⟩
    have hd : ∀ (w : Fin cfg0.W) (s : Fin (cfg0.win w).nbuf) (k : Ck), csem k ≠ SemLoc.dma ((cfg0.win w).sem s) := by decide +kernel
    exact hd w s k hk
  unfold decode Function.partialInv
  rw [dif_neg h]; rfl

theorem waits (c : Dev nD) : (levAts L lv : sProp 𝕄) ⊢ Pipeline.cellsWaits cfgs (dats m ρ) () 0 c :=
  Pipeline.cellsWaits_intro cfgs (dats m ρ) () 0 c fun w s t =>
    mayWait_low c _ (rank_stage w s) _ (by
      rcases t with ⟨_ | _, ht⟩
      · exact Or.inl rfl
      · exact Or.inr rfl)

/-! ## The run -/

def u₀ : UU := (initOf (Pipeline.cells cfgs cellOf_inj) (Pipeline.launchToks cfgs cellOf_inj), initOf ringCells ringToks)

/-- The contents of window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every run of the sixteen devices ends, with each array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (BKm m) (BVm m)) (G' := G' (BKm m) (BVm m)) (u₀ := u₀)
    (hu₀ := by
      unfold u₀
      iintro Hu
      ihave H := (ownU_pair _ _) $$ Hu
      icases H with ⟨HP, HX⟩
      imod (fund_ring (BKm m) (BVm m)) $$ HX with HG
      imodintro
      isplitl [HP] <;> iassumption)
    (hglob := glob (BKm m) (BVm m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Each array after the run -/

theorem finalA_in (c : Dev nD) (w : Fin cfg0.W) (h : (cfg0.win w).isOut = false) :
    finalA m ρ c w = m ((cfg0.win w).arr.view.loc (c : Thread nD τ)) := (dats (F := F) m ρ 0 c).arrAt_in w h _

theorem off_zero {n : ℕ} (f : Fin n → ℕ) : (fun a => 0 * f a) = fun _ => 0 := funext fun a => Nat.zero_mul _

theorem finalA_out (c : Dev nD) : finalA m ρ c (5 : Fin 6) = outAt m c :=
  (dats m ρ 0 c).arrAt_eq_of_cover (5 : Fin 6) (outAt m c) (fun t _ => by
      obtain rfl := fin_N0 t
      exact (Memref.read_access_unit_zero (Elt F) main_v1 (off_zero _) _ (outAt m c)).symm)
    fun i => ⟨t0_0, flush0_5 _, by
      show i ∈ ((View.whole main_v1).slice (win0_5.rect t0_0)).set
      rw [View.set_slice_whole, Rect.mem_set_unit]
      exact fun a => ⟨(Nat.zero_mul _).le.trans (Nat.zero_le _), (i a).isLt.trans_le (Nat.le_add_left _ _)⟩⟩

theorem xAt_eq (c : Dev nD) : xAt m c = m ((c : Thread nD τ).loc main_arg0) := Memref.read_access_unit_zero (Elt F) main_arg0 (off_zero _) _ _
theorem wqAt_eq (c : Dev nD) : wqAt m c = m ((c : Thread nD τ).loc main_arg1) := Memref.read_access_unit_zero (Elt F) main_arg1 (off_zero _) _ _
theorem kAt_eq (c : Dev nD) : kAt m c = m ((c : Thread nD τ).loc main_arg2) := Memref.read_access_unit_zero (Elt F) main_arg2 (off_zero _) _ _
theorem vAt_eq (c : Dev nD) : vAt m c = m ((c : Thread nD τ).loc main_arg3) := Memref.read_access_unit_zero (Elt F) main_arg3 (off_zero _) _ _
theorem woAt_eq (c : Dev nD) : woAt m c = m ((c : Thread nD τ).loc main_arg4) := Memref.read_access_unit_zero (Elt F) main_arg4 (off_zero _) _ _

/-- The same, array by array: each device's arguments as they were, its result computed, every semaphore at zero. -/
theorem run_arrays : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_v1) = outAt m c) ∧ r.2.sem = fun _ => 0) :=
  (θ_run defs _ _).mono (fun r h => ⟨fun c =>
    ⟨(h.1 c (0 : Fin 6)).trans (finalA_in m ρ c _ rfl), (h.1 c (1 : Fin 6)).trans (finalA_in m ρ c _ rfl), (h.1 c (2 : Fin 6)).trans (finalA_in m ρ c _ rfl),
      (h.1 c (3 : Fin 6)).trans (finalA_in m ρ c _ rfl), (h.1 c (4 : Fin 6)).trans (finalA_in m ρ c _ rfl), (h.1 c (5 : Fin 6)).trans (finalA_out m ρ c)⟩, h.2⟩)
    (run_main m ρ)

end Cert.KernelIdeal.Pass

end
-- ==== Proof.Softmax.lean ====
module

public import Idealize.ShloMosaic.PureOps.Ideal

@[expose] public section

noncomputable section

/-!
Facts on extended reals and on finite sums that know nothing of the two programs: the weighted mean by exponentials
of scores is the same with and without the greatest score subtracted first, and a sum over the whole sequence is a sum
over the blocks of the devices, taken in the order in which the ring brings them.
-/

namespace Cert.Attention

open Idealize.ShloMosaic

/-! ## Sums of extended reals -/

section Sums
variable {ι : Type} [Fintype ι]

/-- A sum of reals, read as an extended real, is the sum of the terms so read. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a real and not negative goes into a sum of any extended reals. -/
theorem sum_mul (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

end Sums

/-! ## Scores under a mask -/

/-- A score that the mask hides is minus infinity. -/
def hide (p : Prop) [Decidable p] (a : ℝ) : EReal := if p then (a : EReal) else ⊥

/-- The weight of a score under the mask: the exponential, or nothing where hidden. -/
def weight (p : Prop) [Decidable p] (a : ℝ) : ℝ := if p then Real.exp a else 0

/-- The exponential of a score under the mask is its weight. -/
theorem exp_hide (p : Prop) [Decidable p] (a : ℝ) : Ideal.exp (hide p a) = (weight p a : EReal) := by
  unfold hide weight; split
  · exact Ideal.exp_coe a
  · rw [Ideal.exp_bot, EReal.coe_zero]

/-- The exponential of a score less a real is the weight times one positive factor. -/
theorem exp_hide_sub (p : Prop) [Decidable p] (a M : ℝ) :
    Ideal.exp (hide p a - (M : EReal)) = ((Real.exp (-M) * weight p a : ℝ) : EReal) := by
  unfold hide weight; split
  · rw [← EReal.coe_sub, Ideal.exp_coe, ← Real.exp_add]; congr 2; ring
  · rw [EReal.bot_sub, Ideal.exp_bot, mul_zero, EReal.coe_zero]

section Softmax
variable {ι : Type} [Fintype ι] (p : ι → Prop) [DecidablePred p] (s : ι → ℝ)

/-- A greatest score is minus infinity, everything being hidden, or a real. -/
theorem fold_max_hide (t : Finset ι) :
    (t.fold max ⊥ (fun j => hide (p j) (s j)) = ⊥ ∧ ∀ j ∈ t, ¬ p j) ∨ ∃ M : ℝ, t.fold max ⊥ (fun j => hide (p j) (s j)) = (M : EReal) := by
  classical
  induction t using Finset.induction_on with
  | empty => exact .inl ⟨rfl, fun j h => absurd h (Finset.notMem_empty j)⟩
  | insert a t ha ih =>
    rw [Finset.fold_insert ha]
    by_cases hp : p a
    · refine .inr ?_
      rw [hide, if_pos hp]
      rcases ih with ⟨h, -⟩ | ⟨M, h⟩
      · exact ⟨s a, by rw [h]; exact max_eq_left bot_le⟩
      · exact ⟨max (s a) M, by rw [h]; exact (EReal.coe_strictMono.monotone.map_max).symm⟩
    · rw [hide, if_neg hp, max_eq_right bot_le]
      rcases ih with ⟨h, h'⟩ | h
      · exact .inl ⟨h, fun j hj => (Finset.mem_insert.1 hj).elim (fun e => e ▸ hp) (h' j)⟩
      · exact .inr h

/-- The mean of `v` by the exponentials of the scores, sums first and the quotient last, is the sum of `v` at the
    normalised weights with the greatest score subtracted: some score being seen, and `v` being anything. -/
theorem softmax_mean (hp : ∃ j, p j) (v : ι → EReal) :
    Ideal.div (∑ j, v j * Ideal.exp (hide (p j) (s j))) (∑ j, Ideal.exp (hide (p j) (s j)))
      = ∑ j, v j * Ideal.div (Ideal.exp (hide (p j) (s j) - Finset.univ.fold max ⊥ (fun j => hide (p j) (s j))))
          (∑ j, Ideal.exp (hide (p j) (s j) - Finset.univ.fold max ⊥ (fun j => hide (p j) (s j)))) := by
  obtain ⟨M, hM⟩ : ∃ M : ℝ, Finset.univ.fold max ⊥ (fun j => hide (p j) (s j)) = (M : EReal) := by
    rcases fold_max_hide p s Finset.univ with ⟨-, h⟩ | h
    · obtain ⟨j, hj⟩ := hp; exact absurd hj (h j (Finset.mem_univ j))
    · exact h
  rw [hM]
  simp only [exp_hide_sub, exp_hide]
  rw [← coe_sum, ← coe_sum, ← Finset.mul_sum]
  have hw : ∀ j, 0 ≤ weight (p j) (s j) := fun j => by unfold weight; split <;> positivity
  have hL : 0 < ∑ j, weight (p j) (s j) := by
    obtain ⟨j, hj⟩ := hp
    refine Finset.sum_pos' (fun j _ => hw j) ⟨j, Finset.mem_univ j, ?_⟩
    unfold weight; rw [if_pos hj]; positivity
  have ht : (0 : ℝ) < Real.exp (-M) := Real.exp_pos _
  generalize (∑ j, weight (p j) (s j)) = L at hL
  generalize Real.exp (-M) = t at ht
  rw [Ideal.div_coe hL.ne', sum_mul _ _ (by positivity)]
  refine Finset.sum_congr rfl fun j _ => ?_
  rw [Ideal.div_coe (by positivity), mul_assoc, ← EReal.coe_mul, ← EReal.coe_mul]
  congr 2
  field_simp

end Softmax

/-! ## The sequence in blocks -/

/-- Position `j` of the block of device `e`, in the whole sequence. -/
def pos (e : Fin 16) (j : Fin 256) : Fin 4096 := ⟨e.val * 256 + j.val, by omega⟩

/-- A sum over the sequence is a sum over the blocks of the sums over each. -/
theorem sum_pos_blocks (f : Fin 4096 → EReal) : ∑ g, f g = ∑ e : Fin 16, ∑ j : Fin 256, f (pos e j) := by
  rw [← (finProdFinEquiv (m := 16) (n := 256)).sum_comp, Fintype.sum_prod_type]
  refine Finset.sum_congr rfl fun e _ => Finset.sum_congr rfl fun j _ => congrArg f (Fin.ext ?_)
  show j.val + 256 * e.val = e.val * 256 + j.val
  omega

/-- The device `s` places back around the ring. -/
def before (c s : Fin 16) : Fin 16 := ⟨(c.val + (16 - s.val % 16)) % 16, Nat.mod_lt _ (by decide)⟩

theorem before_before (c s : Fin 16) : before c (before c s) = s := by revert c s; decide
theorem before_le (c s : Fin 16) : before c s ≤ c ↔ s ≤ c := by revert c s; decide

/-- The sums of the first blocks that the ring brings, those that come from devices after `c` left out. -/
def ringSum (f : Fin 16 → EReal) (c : Fin 16) : ℕ → EReal
  | 0 => f (before c 0)
  | n + 1 => if n + 1 ≤ c.val then ringSum f c n + f (before c (Fin.ofNat 16 (n + 1))) else ringSum f c n

theorem ringSum_eq (f : Fin 16 → EReal) (c : Fin 16) (n : ℕ) :
    ringSum f c n = ∑ k ∈ Finset.range (n + 1), if k ≤ c.val then f (before c (Fin.ofNat 16 k)) else 0 := by
  induction n with
  | zero => simp [ringSum]
  | succ n ih =>
    rw [Finset.sum_range_succ, ← ih, ringSum]
    split
    · rfl
    · rw [add_zero]

/-- All the blocks that the ring brings to `c`: the blocks up to its own. -/
theorem ringSum_all (f : Fin 16 → EReal) (c : Fin 16) : ringSum f c 15 = ∑ e : Fin 16, if e ≤ c then f e else 0 := by
  rw [ringSum_eq, Finset.sum_range]
  refine Eq.trans ?_ (Equiv.sum_comp (Function.Involutive.toPerm (before c) (before_before c)) fun e => if e ≤ c then f e else 0)
  refine Finset.sum_congr rfl fun k _ => ?_
  have hk : Fin.ofNat 16 k.val = k := Fin.ext (Nat.mod_eq_of_lt k.isLt)
  show _ = if before c k ≤ c then f (before c k) else 0
  rw [hk]
  exact if_congr (before_le c k).symm rfl rfl

end Cert.Attention

end
-- ==== Proof.Score.lean ====
module

public import proofs.«01_k».proof.Proof.Softmax
public import Idealize.ShloMosaic.Lib.Pointwise

@[expose] public section

noncomputable section

/-!
The attention that both programs compute, over the whole sequence: the activations, the query weights and the keys are
reals, the values and the output weights any extended reals.
-/

namespace Cert.Attention

open Idealize.ShloMosaic

/-- The shapes of the whole arrays: activations, query weights, keys and values, output weights. -/
abbrev XS : Shape := ⟨3, ![2, 4096, 512]⟩
abbrev WS : Shape := ⟨2, ![512, 256]⟩
abbrev KS : Shape := ⟨4, ![2, 4096, 4, 64]⟩
abbrev OS : Shape := ⟨2, ![256, 512]⟩

variable (X : XS.Idx → ℝ) (W : WS.Idx → ℝ) (K : KS.Idx → ℝ) (V : KS.Idx → EReal) (O : OS.Idx → EReal)

/-- Coordinate `d` of head `h` among the 256 coordinates of all heads. -/
def lane (h : Fin 4) (d : Fin 64) : Fin 256 := ⟨h.val * 64 + d.val, by omega⟩

/-- Coordinate `d` of head `h` of the query in row `g` of sequence `b`. -/
def query (b : Fin 2) (h : Fin 4) (g : Fin 4096) (d : Fin 64) : ℝ := ∑ t : Fin 512, X (ix3 b g t) * W (ix2 t (lane h d))

/-- The score of the key in row `j` for the query in row `g`. -/
def score (b : Fin 2) (h : Fin 4) (g j : Fin 4096) : ℝ := (∑ d : Fin 64, query X W b h g d * K (ix4 b j h d)) * (1 / 8)

/-- The query in row `g` sees the key in row `j`: the key's group of 64 is not after the query's. -/
abbrev Sees (g j : Fin 4096) : Prop := j.val / 64 ≤ g.val / 64

/-- The exponential of the masked score. -/
def term (b : Fin 2) (h : Fin 4) (g j : Fin 4096) : EReal := Ideal.exp (hide (Sees g j) (score X W K b h g j))

/-- Coordinate `d` of head `h` of the mean of the values that the query in row `g` of sequence `b` attends to. -/
def mean (b : Fin 2) (h : Fin 4) (g : Fin 4096) (d : Fin 64) : EReal :=
  Ideal.div (∑ j, V (ix4 b j h d) * term X W K b h g j) (∑ j, term X W K b h g j)

/-- The head and the coordinate within the head of each of the 256 coordinates. -/
def headOf (e : Fin 256) : Fin 4 := ⟨e.val / 64, by omega⟩
def coordOf (e : Fin 256) : Fin 64 := ⟨e.val % 64, by omega⟩

/-- Entry `n` of row `g` of sequence `b` of the result. -/
def attended (b : Fin 2) (g : Fin 4096) (n : Fin 512) : EReal :=
  ∑ e : Fin 256, mean X W K V b (headOf e) g (coordOf e) * O (ix2 e n)

/-- A key that is not seen has no weight. -/
theorem term_of_not {b : Fin 2} {h : Fin 4} {g j : Fin 4096} (hs : ¬ Sees g j) : term X W K b h g j = 0 := by
  unfold term hide; rw [if_neg hs, Ideal.exp_bot]

/-- The literal of the scale is one eighth. -/
theorem eighth : Ideal.ofBits .f32 0x3E000000#32 = ((1 / 8 : ℝ) : EReal) := by
  simp [Ideal.ofBits, Ideal.ieee, -EReal.coe_mul]; norm_num

end Cert.Attention

end
-- ==== Proof.KernelIdeal.Value.lean ====
module

public import proofs.«01_k».proof.Proof.KernelIdeal.Launch
public import proofs.«01_k».proof.Proof.Score
public import Idealize.ShloMosaic.Lib.Pointwise
public import Idealize.ShloMosaic.Lib.WordCmp
public import Idealize.ShloMosaic.PureOps.Ideal.Laws

@[expose] public section

set_option maxRecDepth 16384

noncomputable section

/-!
The kernel's result, entry by entry, over the extended reals: what each device computes of the blocks it receives is the
attention of the whole sequence at the device's own rows.
-/

namespace Cert.KernelIdeal.Pass

open Idealize.ShloMosaic Idealize.ShloMosaic.TcCoe
open Cert.KernelIdeal.Gen Cert.Attention

/-- Sequence `b` and head `h` in the order in which the blocks hold them. -/
def row (b : Fin 2) (h : Fin 4) : Fin 8 := ⟨b.val * 4 + h.val, by omega⟩

/-- The sequence and the head of a row. -/
theorem row_div (b : Fin 2) (h : Fin 4) (hh : (row b h).val / 4 < 2) : (⟨(row b h).val / 4, hh⟩ : Fin 2) = b :=
  Fin.ext (by show (b.val * 4 + h.val) / 4 = b.val; omega)
theorem row_mod (b : Fin 2) (h : Fin 4) (hh : (row b h).val % 4 < 4) : (⟨(row b h).val % 4, hh⟩ : Fin 4) = h :=
  Fin.ext (by show (b.val * 4 + h.val) % 4 = h.val; omega)

/-! ## The blocks that go around the ring -/

/-- The key block, entry by entry. -/
theorem keys_apply (k : Vec Ideal S2x256x4x64 .f32) (b : Fin 2) (h : Fin 4) (d : Fin 64) (j : Fin 256) :
    k0_pay1 (F := Ideal) k (ix4 0 (row b h) d j) = k (ix4 b j h d) := by
  pointwise [k0_pay1]
  rw [row_div, row_mod]

/-- The value block, entry by entry. -/
theorem values_apply (v : Vec Ideal S2x256x4x64 .f32) (b : Fin 2) (h : Fin 4) (d : Fin 64) (j : Fin 256) :
    k0_pay3 (k0_pay2 (F := Ideal) v) (ix4 0 (row b h) d j) = v (ix4 b j h d) := by
  pointwise [k0_pay3, k0_pay2]
  rw [row_div, row_mod]

/-- The scaled queries, entry by entry. -/
theorem queries_apply (x : Vec Ideal S2x256x512 .f32) (w : Vec Ideal S512x256 .f32) (b : Fin 2) (h : Fin 4) (j : Fin 256) (d : Fin 64) :
    k0_pay4 (F := Ideal) x w (ix3 (row b h) j d) = (∑ t : Fin 512, x (ix3 b j t) * w (ix2 t (lane h d))) * ((1 / 8 : ℝ) : EReal) := by
  pointwise [k0_pay4]
  rw [row_div, eighth]
  refine congrArg (· * _) (Finset.sum_congr rfl fun t _ => ?_)
  refine congrArg (fun e => x (ix3 b j t) * w (ix2 t e)) (Fin.ext ?_)
  show (b.val * 4 + h.val) % 4 * 64 + d.val = h.val * 64 + d.val
  omega

/-! ## The mask of the device's own block -/

/-- The group of a position in its block is its quotient by 64. -/
theorem group_small (i : Fin 256) :
    Scalar.select (IntOp.andi (IntOp.cmpi .ne (IntOp.subi (BitVec.setWidth 32 (IntOp.cmpi .sgt (BitVec.ofNat 32 i.val) 0#32)) (BitVec.setWidth 32 (IntOp.cmpi .slt (BitVec.ofNat 32 i.val) 0#32)))
        (Scalar.subi (Scalar.extui (Scalar.cmpi .sgt 64#32 0#32)) (Scalar.extui (Scalar.cmpi .slt 64#32 0#32))))
      (IntOp.cmpi .ne (IntOp.remsi .vector (BitVec.ofNat 32 i.val) 64#32) 0#32))
      (IntOp.subi (IntOp.divsi .vector (BitVec.ofNat 32 i.val) 64#32) 1#32) (IntOp.divsi .vector (BitVec.ofNat 32 i.val) 64#32)
      = BitVec.ofNat 32 (i.val / 64) := by
  revert i; decide +kernel

/-- The mask, entry by entry: the group of the key is not after that of the query. -/
theorem mask_apply (i j : Fin 256) : mask (ix2 i j) = BitVec.ofBool (decide (j.val / 64 ≤ i.val / 64)) := by
  pointwise [mask, k0_pay7, k0_pay5, k0_pay6]
  rw [group_small, group_small, WordCmp.cmpi_sge_ofNat (by omega) (by omega)]

/-- The mask's filler. -/
theorem hidden : Named.named (F := Ideal) κ "masked" (φ := .f32) 0xC1F00000#32 = (⊥ : EReal) :=
  IdealRules.named_const.ideal_named_scalar _ _ _ _ rfl

/-! ## One block's weights -/

/-- The weights of the device's own block, entry by entry. -/
theorem weights_own (q : FVec Ideal S8x256x64 .bf16) (mk : IVec S256x256 1) (k : Vec Ideal S1x8x64x256 .fp8e4m3) (r : Fin 8) (i j : Fin 256) :
    k0_pay10 (F := Ideal) q mk k (ix3 r i j) = Ideal.exp (Scalar.select (mk (ix2 i j)) (∑ d : Fin 64, q (ix3 r i d) * k (ix4 0 r d j)) ⊥) := by
  pointwise [k0_pay10]
  rw [hidden]

/-- The weights of an earlier block, entry by entry. -/
theorem weights_earlier (q : FVec Ideal S8x256x64 .bf16) (k : Vec Ideal S1x8x64x256 .fp8e4m3) (r : Fin 8) (i j : Fin 256) :
    k0_pay13 (F := Ideal) q k (ix3 r i j) = Ideal.exp (∑ d : Fin 64, q (ix3 r i d) * k (ix4 0 r d j)) := by
  pointwise [k0_pay13]

/-- The sum of the own block's weights, entry by entry. -/
theorem sum_own (q : FVec Ideal S8x256x64 .bf16) (mk : IVec S256x256 1) (k : Vec Ideal S1x8x64x256 .fp8e4m3) (r : Fin 8) (i : Fin 256) :
    k0_pay11 (F := Ideal) q mk k (k0_pay8 (F := Ideal)) (ix2 r i) = ∑ j, k0_pay10 q mk k (ix3 r i j) := by
  pointwise [k0_pay11, k0_pay8]

/-- An earlier block's weights added to a running sum, entry by entry. -/
theorem sum_earlier (q : FVec Ideal S8x256x64 .bf16) (k : Vec Ideal S1x8x64x256 .fp8e4m3) (l : Vec Ideal S8x256 .f32) (r : Fin 8) (i : Fin 256) :
    k0_pay14 (F := Ideal) q k l (ix2 r i) = l (ix2 r i) + ∑ j, k0_pay13 q k (ix3 r i j) := by
  pointwise [k0_pay14]

/-- The own block's values under its weights, entry by entry. -/
theorem dot_own (q : FVec Ideal S8x256x64 .bf16) (mk : IVec S256x256 1) (k : Vec Ideal S1x8x64x256 .fp8e4m3) (v : Vec Ideal S1x8x64x256 .bf16)
    (r : Fin 8) (d : Fin 64) (i : Fin 256) :
    k0_pay12 (F := Ideal) q mk k (k0_pay9 (F := Ideal)) v (ix3 r d i) = ∑ j, v (ix4 0 r d j) * k0_pay10 q mk k (ix3 r i j) := by
  pointwise [k0_pay12, k0_pay9]

/-- An earlier block's values under its weights, added to a running sum, entry by entry. -/
theorem dot_earlier (q : FVec Ideal S8x256x64 .bf16) (k : Vec Ideal S1x8x64x256 .fp8e4m3) (a : Vec Ideal S8x64x256 .f32) (v : Vec Ideal S1x8x64x256 .bf16)
    (r : Fin 8) (d : Fin 64) (i : Fin 256) :
    k0_pay15 (F := Ideal) q k a v (ix3 r d i) = a (ix3 r d i) + ∑ j, v (ix4 0 r d j) * k0_pay13 q k (ix3 r i j) := by
  pointwise [k0_pay15]

/-- The quotient of the sums through the output weights, entry by entry. -/
theorem out_apply (a : Vec Ideal S8x64x256 .f32) (l : Vec Ideal S8x256 .f32) (w : Vec Ideal S256x512 .f32) (b : Fin 2) (i : Fin 256) (n : Fin 512) :
    k0_pay58 (F := Ideal) a l w (ix3 b i n)
      = ∑ e : Fin 256, Ideal.div (a (ix3 (row b (headOf e)) (coordOf e) i)) (l (ix2 (row b (headOf e)) i)) * w (ix2 e n) := by
  pointwise [k0_pay58]
  rfl

/-! ## The running sums -/

section Real
variable (c : Dev nD) (BK : Dev nD → Vec Ideal S1x8x64x256 .fp8e4m3) (BV : Dev nD → Vec Ideal S1x8x64x256 .bf16)
  (x : Vec Ideal S2x256x512 .f32) (wq : Vec Ideal S512x256 .f32) (wo : Vec Ideal S256x512 .f32)
  (X : XS.Idx → ℝ) (W : WS.Idx → ℝ) (K : KS.Idx → ℝ) (V : KS.Idx → EReal)

/-- The block in slot `n` comes from the device that many places back. -/
theorem before_eq_back (n : ℕ) : before c (Fin.ofNat 16 n) = back c n :=
  Fin.ext (by show (c.val + (16 - n % 16 % 16)) % 16 = (c.val + (16 - n % 16)) % 16; rw [Nat.mod_mod])

/-- A ring's sum of blocks that vanish after the device's own place is the sum over the whole sequence. -/
theorem ringSum_whole (f : Fin 4096 → EReal) (hf : ∀ (e : Fin 16) (j : Fin 256), ¬ e ≤ c → f (pos e j) = 0) :
    ringSum (fun e => ∑ j, f (pos e j)) c 15 = ∑ g, f g := by
  rw [ringSum_all, sum_pos_blocks]
  refine Finset.sum_congr rfl fun e _ => ?_
  by_cases he : e ≤ c
  · rw [if_pos he]
  · rw [if_neg he]
    exact (Finset.sum_eq_zero fun j _ => hf e j he).symm

/-- A block that comes from a later device holds no key that is seen. -/
theorem later_term (b : Fin 2) (h : Fin 4) (i : Fin 256) (e : Fin 16) (j : Fin 256) (he : ¬ e ≤ c) :
    term X W K b h (pos c i) (pos e j) = 0 := by
  refine term_of_not X W K fun hs => he ?_
  have hs' : (e.val * 256 + j.val) / 64 ≤ (c.val * 256 + i.val) / 64 := hs
  show e.val ≤ c.val
  omega

/-- What the blocks are: device `c` has its rows of the activations, every device sends its rows of the keys and values. -/
structure Blocks : Prop where
  x (b : Fin 2) (i : Fin 256) (t : Fin 512) : x (ix3 b i t) = ((X (ix3 b (pos c i) t) : ℝ) : EReal)
  w (t : Fin 512) (e : Fin 256) : wq (ix2 t e) = ((W (ix2 t e) : ℝ) : EReal)
  k (e : Dev nD) (b : Fin 2) (h : Fin 4) (d : Fin 64) (j : Fin 256) : BK e (ix4 0 (row b h) d j) = ((K (ix4 b (pos e j) h d) : ℝ) : EReal)
  v (e : Dev nD) (b : Fin 2) (h : Fin 4) (d : Fin 64) (j : Fin 256) : BV e (ix4 0 (row b h) d j) = V (ix4 b (pos e j) h d)

variable (H : Blocks c BK BV x wq X W K V)
include H

/-- The product of the scaled queries with block `e`'s keys is the score. -/
theorem dot_eq_score (e : Dev nD) (b : Fin 2) (h : Fin 4) (i j : Fin 256) :
    ∑ d : Fin 64, k0_pay4 (F := Ideal) x wq (ix3 (row b h) i d) * BK e (ix4 0 (row b h) d j)
      = ((score X W K b h (pos c i) (pos e j) : ℝ) : EReal) := by
  simp only [queries_apply, H.x, H.w, H.k, ← EReal.coe_mul, ← coe_sum]
  refine congrArg Real.toEReal ?_
  unfold score query
  rw [Finset.sum_mul]
  refine Finset.sum_congr rfl fun d _ => ?_
  ring

/-- The own block's weights are the terms of the own rows. -/
theorem own_term (b : Fin 2) (h : Fin 4) (i j : Fin 256) :
    k0_pay10 (F := Ideal) (k0_pay4 x wq) mask (BK c) (ix3 (row b h) i j) = term X W K b h (pos c i) (pos c j) := by
  rw [weights_own, mask_apply, dot_eq_score c BK BV x wq X W K V H, WordCmp.select_ofBool]
  have hs : j.val / 64 ≤ i.val / 64 ↔ Sees (pos c i) (pos c j) := by
    show _ ↔ (c.val * 256 + j.val) / 64 ≤ (c.val * 256 + i.val) / 64
    omega
  unfold term hide
  by_cases hj : j.val / 64 ≤ i.val / 64
  · rw [decide_eq_true hj, if_pos rfl, if_pos (hs.1 hj)]
  · rw [decide_eq_false hj, if_neg Bool.false_ne_true, if_neg fun h => hj (hs.2 h)]

/-- An earlier block's weights are the terms of that block's rows: all are seen. -/
theorem earlier_term (e : Dev nD) (he : e.val < c.val) (b : Fin 2) (h : Fin 4) (i j : Fin 256) :
    k0_pay13 (F := Ideal) (k0_pay4 x wq) (BK e) (ix3 (row b h) i j) = term X W K b h (pos c i) (pos e j) := by
  rw [weights_earlier, dot_eq_score c BK BV x wq X W K V H]
  have hs : Sees (pos c i) (pos e j) := by
    show (e.val * 256 + j.val) / 64 ≤ (c.val * 256 + i.val) / 64
    omega
  unfold term hide
  rw [if_pos hs]

/-- The running sum of the weights after each slot. -/
theorem Lst_apply (b : Fin 2) (h : Fin 4) (i : Fin 256) (n : ℕ) :
    Lst BK (k0_pay4 x wq) c n (ix2 (row b h) i) = ringSum (fun e => ∑ j, term X W K b h (pos c i) (pos e j)) c n := by
  induction n with
  | zero =>
    have hb : before c 0 = c := back_zero c
    rw [Lst, ringSum, back_zero, hb, sum_own]
    exact Finset.sum_congr rfl fun j _ => own_term c BK BV x wq X W K V H b h i j
  | succ n ih =>
    rw [Lst, ringSum]
    by_cases hn : n + 1 ≤ c.val
    · have he : (back c (n + 1)).val < c.val := by rw [back_val c _ hn]; omega
      rw [if_pos hn, if_pos hn, sum_earlier, ih, before_eq_back c]
      exact congrArg (_ + ·) (Finset.sum_congr rfl fun j _ => earlier_term c BK BV x wq X W K V H _ he b h i j)
    · rw [if_neg hn, if_neg hn, ih]

/-- The running sum of the weighted values after each slot. -/
theorem Ast_apply (b : Fin 2) (h : Fin 4) (d : Fin 64) (i : Fin 256) (n : ℕ) :
    Ast BK BV (k0_pay4 x wq) c n (ix3 (row b h) d i)
      = ringSum (fun e => ∑ j, V (ix4 b (pos e j) h d) * term X W K b h (pos c i) (pos e j)) c n := by
  induction n with
  | zero =>
    have hb : before c 0 = c := back_zero c
    rw [Ast, ringSum, back_zero, hb, dot_own]
    exact Finset.sum_congr rfl fun j _ => congrArg₂ (· * ·) (H.v c b h d j) (own_term c BK BV x wq X W K V H b h i j)
  | succ n ih =>
    rw [Ast, ringSum]
    by_cases hn : n + 1 ≤ c.val
    · have he : (back c (n + 1)).val < c.val := by rw [back_val c _ hn]; omega
      rw [if_pos hn, if_pos hn, dot_earlier, ih, before_eq_back c]
      exact congrArg (_ + ·) (Finset.sum_congr rfl fun j _ =>
        congrArg₂ (· * ·) (H.v _ b h d j) (earlier_term c BK BV x wq X W K V H _ he b h i j))
    · rw [if_neg hn, if_neg hn, ih]

/-- What device `c` computes, entry by entry, is the attention at its own rows. -/
theorem result_apply (b : Fin 2) (i : Fin 256) (n : Fin 512) :
    result BK BV x wq wo c (ix3 b i n) = attended X W K V wo b (pos c i) n := by
  unfold result attended
  rw [out_apply]
  refine Finset.sum_congr rfl fun e _ => congrArg (· * wo (ix2 e n)) ?_
  rw [Ast_apply c BK BV x wq X W K V H, Lst_apply c BK BV x wq X W K V H]
  unfold mean
  exact congrArg₂ Ideal.div
    (ringSum_whole c (fun g => V (ix4 b g (headOf e) (coordOf e)) * term X W K b (headOf e) (pos c i) g) fun a j ha => by
      rw [later_term c X W K b (headOf e) i a j ha, mul_zero])
    (ringSum_whole c (fun g => term X W K b (headOf e) (pos c i) g) fun a j ha =>
      later_term c X W K b (headOf e) i a j ha)

end Real

end Cert.KernelIdeal.Pass

end
-- ==== Proof.Reference.Terms.lean ====
module

public import proofs.«01_k».proof.Proof.Gen.ReferenceIdeal.Run
public import Idealize.ShloMosaic.Lib.Pointwise
public import Idealize.ShloMosaic.PureOps.Ideal.Laws

@[expose] public section

set_option maxRecDepth 16384

noncomputable section

/-!
The reference, written as the composition of its parts: the groups, the mask, the masked scores, their normalised
exponentials, and the output projection.
-/

namespace Cert.ReferenceIdeal.Attn

open Idealize.ShloMosaic Idealize.ShloMosaic.TcCoe
open Cert.ReferenceIdeal Cert.ReferenceIdeal.Gen

/-- The group of 64 that each position of the sequence lies in. -/
def group : IVec S4096 32 :=
  select
    (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- The mask: the query in row `i` sees the key in column `j`. -/
def seen : IVec S4096x4096 1 :=
  cmpi .sle
    (broadcastInDim S4096x4096 ![0, 1] bcast_S1x4096_S4096x4096_0_1 (broadcastInDim S1x4096 ![1] bcast_S4096_S1x4096_1 group))
    (broadcastInDim S4096x4096 ![0, 1] bcast_S4096x1_S4096x4096_0_1 (broadcastInDim S4096x1 ![0] bcast_S4096_S4096x1_0 group))

/-- Whether a query sees any key at all. -/
def keep : IVec S4096 1 := Host.reduce IntOp.ori seen (constantI S_ 1 0#1) reducesTo_S4096x4096_S4096_d1 h_S_

variable (x : FVec Ideal S2x4096x512 .f32) (wq : FVec Ideal S512x256 .f32) (k v : FVec Ideal S2x4096x4x64 .f32)
  (wo : FVec Ideal S256x512 .f32)

/-- The masked scores. -/
def scores : FVec Ideal S2x4x4096x4096 .f32 :=
  select
    (broadcastInDim S2x4x4096x4096 ![0, 1, 2, 3] bcast_S1x1x4096x4096_S2x4x4096x4096_0_1_2_3
      (broadcastInDim S1x1x4096x4096 ![2, 3] bcast_S4096x4096_S1x1x4096x4096_2_3 seen))
    (mulf
      (Host.dotGeneral (F := Ideal) dot_S2x4096x4x64_S2x4096x4x64_S2x4x4096x4096_3_3_1_1_02_02 none
        (shapeCast _ (Host.dotGeneral (F := Ideal) dot_S2x4096x512_S512x256_S2x4096x256_2_0_01_1_n_n none x wq) shapeCasts_S2x4096x256_S2x4096x4x64) k)
      (broadcastInDim S2x4x4096x4096 ![] bcast_S_S2x4x4096x4096 (constant S_ .f32 0x3E000000#32)))
    (broadcastInDim S2x4x4096x4096 ![] bcast_S_S2x4x4096x4096 (id (constant S_ .f32 0xFF800000#32)))

/-- The greatest score of each row. -/
def rowMax (s : FVec Ideal S2x4x4096x4096 .f32) : FVec Ideal S2x4x4096 .f32 :=
  Host.reduce FloatOps.maximumf s (constant S_ .f32 0xFF800000#32) reducesTo_S2x4x4096x4096_S2x4x4096_d3 h_S_

/-- The weights: the exponentials of the scores less their row's greatest. -/
def weights (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3
    (broadcastInDim S2x4x4096x1 ![0, 1, 2] bcast_S2x4x4096_S2x4x4096x1_0_1_2 (rowMax s))))

/-- The sum of each row's weights. -/
def rowSum (w : FVec Ideal S2x4x4096x4096 .f32) : FVec Ideal S2x4x4096 .f32 :=
  Host.reduceAdd (F := Ideal) w (constant S_ .f32 0x00000000#32) reducesTo_S2x4x4096x4096_S2x4x4096_d3 h_S_

/-- What each row's weights are divided by. -/
def divisor (t : FVec Ideal S2x4x4096 .f32) : FVec Ideal S2x4x4096x1 .f32 :=
  select (broadcastInDim S2x4x4096x1 ![0, 1, 2, 3] bcast_S1x1x4096x1_S2x4x4096x1_0_1_2_3 (broadcastInDim S1x1x4096x1 ![2] bcast_S4096_S1x1x4096x1_2 keep))
    (broadcastInDim S2x4x4096x1 ![0, 1, 2] bcast_S2x4x4096_S2x4x4096x1_0_1_2 t)
    (broadcastInDim S2x4x4096x1 ![] bcast_S_S2x4x4096x1 (id (constant S_ .f32 0x3F800000#32)))

/-- The normalised weights. -/
def probs (w : FVec Ideal S2x4x4096x4096 .f32) (d : FVec Ideal S2x4x4096x1 .f32) : FVec Ideal S2x4x4096x4096 .f32 :=
  select
    (broadcastInDim S2x4x4096x4096 ![0, 1, 2, 3] bcast_S1x1x4096x1_S2x4x4096x4096_0_1_2_3 (broadcastInDim S1x1x4096x1 ![2] bcast_S4096_S1x1x4096x1_2 keep))
    (Host.divf w (broadcastInDim S2x4x4096x4096 ![0, 1, 2, 3] bcast_S2x4x4096x1_S2x4x4096x4096_0_1_2_3 d))
    (broadcastInDim S2x4x4096x4096 ![] bcast_S_S2x4x4096x4096 (id (constant S_ .f32 0x00000000#32)))

/-- The attention of the reference, at normalised weights `p`, sent through the output weights. -/
def project (p : FVec Ideal S2x4x4096x4096 .f32) (v : FVec Ideal S2x4096x4x64 .f32) (wo : FVec Ideal S256x512 .f32) : FVec Ideal S2x4096x512 .f32 :=
  Host.dotGeneral (F := Ideal) dot_S2x4096x256_S256x512_S2x4096x512_2_0_01_1_n_n none
    (shapeCast _ (transpose S2x4096x4x64 [0, 3, 1, 2]
      (Host.dotGeneral (F := Ideal) dot_S2x4096x4x64_S2x4x4096x4096_S2x4x64x4096_1_3_3_2_02_01 none v p)
      transposes_S2x4x64x4096_S2x4096x4x64_0_3_1_2) shapeCasts_S2x4096x4x64_S2x4096x256) wo

/-- The normalised weights of masked scores. -/
def attn (s : FVec Ideal S2x4x4096x4096 .f32) : FVec Ideal S2x4x4096x4096 .f32 := probs (weights s) (divisor (rowSum (weights s)))

/-- The reference's result. -/
def out : FVec Ideal S2x4096x512 .f32 := project (attn (scores x wq k)) v wo

/-- What the reference leaves in its result, in these terms. -/
theorem res_eq (m : (ℓ : Loc nD τ sig) → Buf (Elt Ideal) ℓ) (c : Dev nD) :
    Cert.ReferenceIdeal.Value.res_main_v33 (F := Ideal) m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v33
  rfl

end Cert.ReferenceIdeal.Attn

end
-- ==== Proof.Reference.Value.lean ====
module

public import proofs.«01_k».proof.Proof.Reference.Terms
public import proofs.«01_k».proof.Proof.Score
public import Idealize.ShloMosaic.Lib.Pointwise
public import Idealize.ShloMosaic.Lib.WordCmp
public import Idealize.ShloMosaic.PureOps.Ideal.Laws

@[expose] public section

set_option maxRecDepth 16384

noncomputable section

/-!
The reference's result, entry by entry: the attention of the whole sequence.
-/

namespace Cert.ReferenceIdeal.Attn

open Idealize.ShloMosaic Idealize.ShloMosaic.TcCoe
open Cert.ReferenceIdeal Cert.ReferenceIdeal.Gen Cert.Attention

/-- The group of a position is its quotient by 64. -/
theorem group_apply (i : Fin 4096) : group (ix1 i) = BitVec.ofNat 32 (i.val / 64) := by
  revert i; decide +kernel

/-- The mask, entry by entry. -/
theorem seen_apply (i j : Fin 4096) : seen (ix2 i j) = BitVec.ofBool (decide (Sees i j)) := by
  pointwise [seen]
  rw [group_apply, group_apply, WordCmp.cmpi_sle_ofNat (by omega) (by omega)]

/-- A disjunction of bits one of which is set is set. -/
theorem fold_or_one {p : Fin 4096 → BitVec 1} (i : Fin 4096) (hp : p i = 1#1) : Finset.univ.fold IntOp.ori 0#1 p = 1#1 := by
  rw [← Finset.insert_erase (Finset.mem_univ i), Finset.fold_insert (Finset.notMem_erase i _), hp]
  exact (by decide : ∀ y : BitVec 1, IntOp.ori 1#1 y = 1#1) _

/-- Every query sees a key. -/
theorem keep_apply (i : Fin 4096) : keep (ix1 i) = 1#1 := by
  pointwise [keep]
  exact fold_or_one i (by rw [seen_apply, decide_eq_true le_rfl]; rfl)

/-- The literal below every number. -/
theorem least : Ideal.ofBits .f32 0xFF800000#32 = ⊥ := by
  simp [Ideal.ofBits, Ideal.ieee]

/-- The greatest score, entry by entry. -/
theorem rowMax_apply (s : FVec Ideal S2x4x4096x4096 .f32) (b : Fin 2) (h : Fin 4) (i : Fin 4096) :
    rowMax s (ix3 b h i) = Finset.univ.fold max ⊥ fun j => s (ix4 b h i j) := by
  pointwise [rowMax]
  rw [least]

/-- The weights, entry by entry. -/
theorem weights_apply (s : FVec Ideal S2x4x4096x4096 .f32) (b : Fin 2) (h : Fin 4) (i j : Fin 4096) :
    weights s (ix4 b h i j) = Ideal.exp (s (ix4 b h i j) - rowMax s (ix3 b h i)) := by
  pointwise [weights]

/-- The sum of the weights, entry by entry. -/
theorem rowSum_apply (w : FVec Ideal S2x4x4096x4096 .f32) (b : Fin 2) (h : Fin 4) (i : Fin 4096) :
    rowSum w (ix3 b h i) = ∑ j, w (ix4 b h i j) := by
  pointwise [rowSum]

/-- The divisor, entry by entry. -/
theorem divisor_apply (t : FVec Ideal S2x4x4096 .f32) (b : Fin 2) (h : Fin 4) (i : Fin 4096) :
    divisor t (ix4 b h i 0) = t (ix3 b h i) := by
  pointwise [divisor]
  rw [keep_apply]
  exact if_pos rfl

/-- The quotients, entry by entry. -/
theorem probs_apply (w : FVec Ideal S2x4x4096x4096 .f32) (d : FVec Ideal S2x4x4096x1 .f32) (b : Fin 2) (h : Fin 4) (i j : Fin 4096) :
    probs w d (ix4 b h i j) = Ideal.div (w (ix4 b h i j)) (d (ix4 b h i 0)) := by
  pointwise [probs]
  rw [keep_apply]
  exact if_pos rfl

/-- The projection, entry by entry. -/
theorem project_apply (p : FVec Ideal S2x4x4096x4096 .f32) (v : FVec Ideal S2x4096x4x64 .f32) (wo : FVec Ideal S256x512 .f32)
    (b : Fin 2) (i : Fin 4096) (n : Fin 512) :
    project p v wo (ix3 b i n)
      = ∑ e : Fin 256, (∑ g, v (ix4 b g (headOf e) (coordOf e)) * p (ix4 b (headOf e) i g)) * wo (ix2 e n) := by
  pointwise [project]
  rfl

section Real
variable (x : FVec Ideal S2x4096x512 .f32) (wq : FVec Ideal S512x256 .f32) (k v : FVec Ideal S2x4096x4x64 .f32)
  (wo : FVec Ideal S256x512 .f32)
  (X : XS.Idx → ℝ) (W : WS.Idx → ℝ) (K : KS.Idx → ℝ)
  (hx : ∀ t, x t = ((X t : ℝ) : EReal)) (hw : ∀ t, wq t = ((W t : ℝ) : EReal)) (hk : ∀ t, k t = ((K t : ℝ) : EReal))
include hx hw hk

/-- The masked scores, entry by entry. -/
theorem scores_apply (b : Fin 2) (h : Fin 4) (i j : Fin 4096) :
    scores x wq k (ix4 b h i j) = hide (Sees i j) (score X W K b h i j) := by
  pointwise [scores]
  rw [seen_apply]
  simp only [hx, hw, hk, eighth, ← EReal.coe_mul, ← coe_sum]
  unfold hide
  by_cases hs : Sees i j
  · rw [decide_eq_true hs, if_pos hs]; rfl
  · rw [decide_eq_false hs, if_neg hs]; exact least

/-- The normalised weights, entry by entry. -/
theorem attn_apply (b : Fin 2) (h : Fin 4) (i j : Fin 4096) :
    attn (scores x wq k) (ix4 b h i j)
      = Ideal.div (Ideal.exp (hide (Sees i j) (score X W K b h i j) - Finset.univ.fold max ⊥ (fun j => hide (Sees i j) (score X W K b h i j))))
          (∑ j, Ideal.exp (hide (Sees i j) (score X W K b h i j) - Finset.univ.fold max ⊥ (fun j => hide (Sees i j) (score X W K b h i j)))) := by
  unfold attn
  rw [probs_apply, divisor_apply, rowSum_apply]
  simp only [weights_apply, rowMax_apply, scores_apply x wq k X W K hx hw hk]

/-- The reference's result, entry by entry. -/
theorem out_apply (b : Fin 2) (i : Fin 4096) (n : Fin 512) :
    out x wq k v wo (ix3 b i n) = attended X W K v wo b i n := by
  unfold out attended
  rw [project_apply]
  refine Finset.sum_congr rfl fun e _ => congrArg (· * wo (ix2 e n)) ?_
  simp only [attn_apply x wq k X W K hx hw hk]
  exact (softmax_mean (fun j => Sees i j) (fun j => score X W K b (headOf e) i j) ⟨i, le_rfl⟩ (fun j => v (ix4 b j (headOf e) (coordOf e)))).symm

end Real

end Cert.ReferenceIdeal.Attn

end
-- ==== Proof.Finite.lean ====
module

public import proofs.«01_k».proof.Pre_finite_KernelIdeal
public import proofs.«01_k».proof.Pre_finite_ReferenceIdeal
public import Idealize.ShloMosaic.Lib.ReduceAll
public import Idealize.ShloMosaic.PureOps.Ideal.Laws

@[expose] public section

noncomputable section

/-!
The precondition: the activations, the query weights and the keys hold real numbers.
-/

namespace Cert.Attention

open Idealize.ShloMosaic

/-- The side conditions of the precondition, at a device's blocks and at the whole arrays. -/
theorem finite_block_facts : Cert.Pre_finite_KernelIdeal.Facts := by constructor <;> decide
theorem finite_whole_facts : Cert.Pre_finite_ReferenceIdeal.Facts := by constructor <;> decide

/-- A number whose magnitude is below +∞ is real. -/
theorem real_of_lt_top {a : EReal} (h : max a (-a) < ⊤) : ((a.toReal : ℝ) : EReal) = a := by
  refine EReal.coe_toReal (fun ht => ?_) (fun hb => ?_)
  · rw [ht] at h; exact absurd (lt_of_le_of_lt (le_max_left _ _) h) (lt_irrefl _)
  · rw [hb, EReal.neg_bot] at h; exact absurd (lt_of_le_of_lt (le_max_right _ _) h) (lt_irrefl _)

/-- The same, of the comparison that the precondition makes. -/
theorem real_of_cmp {a : Ideal .f32} (h : FloatOps.cmpf .olt (FloatOps.absf a) (Ideal.ofBits .f32 0x7F800000#32) = 1#1) :
    ((EReal.toReal a : ℝ) : EReal) = a := by
  refine real_of_lt_top ?_
  have ht : Ideal.ofBits .f32 0x7F800000#32 = ⊤ := by simp [Ideal.ofBits, Ideal.ieee]
  rw [ht] at h
  by_contra hc
  have : FloatOps.cmpf (F := Ideal) (φ := .f32) .olt (FloatOps.absf a) (⊤ : EReal) = BitVec.ofBool (decide (max a (-a) < (⊤ : EReal))) := rfl
  rw [this, decide_eq_false hc] at h
  exact absurd h (by decide)

variable [Cert.Pre_finite_KernelIdeal.Facts]

open Cert.Pre_finite_KernelIdeal in
/-- The precondition, read. -/
theorem finite_reads (x : FVec Ideal S2x256x512 .f32) (wq : FVec Ideal S512x256 .f32) (k v : FVec Ideal S2x256x4x64 .f32)
    (wo : FVec Ideal S256x512 .f32) (h : fn (F := Ideal) x wq k v wo = fun _ => 1#1) :
    (∀ t, ((EReal.toReal (x t) : ℝ) : EReal) = x t) ∧ (∀ t, ((EReal.toReal (wq t) : ℝ) : EReal) = wq t)
      ∧ ∀ t, ((EReal.toReal (k t) : ℝ) : EReal) = k t := by
  have : Subsingleton S_.Idx := ⟨fun a b => funext fun i => i.elim0⟩
  have split : ∀ a b : BitVec 1, IntOp.andi a b = 1#1 → a = 1#1 ∧ b = 1#1 := by decide
  have h0 := congrFun h (fun i => i.elim0)
  dsimp only [fn] at h0
  obtain ⟨h1, hk⟩ := split _ _ h0
  obtain ⟨hx, hw⟩ := split _ _ h1
  exact ⟨fun t => real_of_cmp (Host.reduce_andi_all _ _ _ _ _ hx t), fun t => real_of_cmp (Host.reduce_andi_all _ _ _ _ _ hw t),
    fun t => real_of_cmp (Host.reduce_andi_all _ _ _ _ _ hk t)⟩

end Cert.Attention

end
-- ==== Proof.Tie.lean ====
module

public import proofs.«01_k».proof.Defs
public import proofs.«01_k».proof.Proof.KernelIdeal.Value
public import proofs.«01_k».proof.Proof.Reference.Value
public import proofs.«01_k».proof.Proof.Finite
public import Idealize.ShloMosaic.Lib.LayoutAt

@[expose] public section

set_option maxRecDepth 16384

noncomputable section

/-!
The blocks of the sixteen devices against the whole arrays of the reference.
-/

namespace Cert.Attention

open Idealize.ShloMosaic

/-- Every row of the sequence is a row of some device's block. -/
theorem exists_pos (g : Fin 4096) : ∃ c i, g = pos c i :=
  ⟨⟨g.val / 256, by omega⟩, ⟨g.val % 256, by omega⟩, Fin.ext (by show g.val = g.val / 256 * 256 + g.val % 256; omega)⟩

/-- Every index of the activations or of the result is in some device's block. -/
theorem exists_rows (t : XS.Idx) : ∃ b e i n, t = ix3 b (pos e i) n := by
  obtain ⟨e, i, he⟩ := exists_pos (t 1)
  exact ⟨t 0, e, i, t 2, (eq_ix3 t).trans (congrArg (fun g => ix3 (t 0) g (t 2)) he)⟩

/-- Every index of the keys or of the values is in some device's block. -/
theorem exists_heads (t : KS.Idx) : ∃ b e i h d, t = ix4 b (pos e i) h d := by
  obtain ⟨e, i, he⟩ := exists_pos (t 1)
  exact ⟨t 0, e, i, t 2, t 3, (eq_ix4 t).trans (congrArg (fun g => ix4 (t 0) g (t 2) (t 3)) he)⟩

/-- A device's block of the activations or of the result, entry by entry. -/
theorem block_rows {α : Type} (c : Fin 16) (v : XS.Idx → α) (b : Fin 2) (i : Fin 256) (n : Fin 512) :
    Layout.block ⟨3, ![2, 256, 512]⟩ ⟨3, ![2, 4096, 512]⟩ 1 16 c v (by decide) (ix3 b i n) = v (ix3 b (pos c i) n) := by
  refine congrArg v (funext fun a => Fin.ext ?_)
  fin_cases a <;> rfl

/-- A device's block of the keys or of the values, entry by entry. -/
theorem block_heads {α : Type} (c : Fin 16) (v : KS.Idx → α) (b : Fin 2) (j : Fin 256) (h : Fin 4) (d : Fin 64) :
    Layout.block ⟨4, ![2, 256, 4, 64]⟩ ⟨4, ![2, 4096, 4, 64]⟩ 1 16 c v (by decide) (ix4 b j h d) = v (ix4 b (pos c j) h d) := by
  refine congrArg v (funext fun a => Fin.ext ?_)
  fin_cases a <;> rfl

/-- Where the inputs are blocks of arrays of reals, each device computes its block of the reference's result. -/
theorem result_eq_block (x : XS.Idx → EReal) (wq : WS.Idx → EReal) (k v : KS.Idx → EReal) (wo : OS.Idx → EReal)
    (xs : Fin 16 → (⟨3, ![2, 256, 512]⟩ : Shape).Idx → EReal) (ks vs : Fin 16 → (⟨4, ![2, 256, 4, 64]⟩ : Shape).Idx → EReal)
    (hxs : ∀ c, xs c = Layout.block ⟨3, ![2, 256, 512]⟩ ⟨3, ![2, 4096, 512]⟩ 1 16 c x)
    (hks : ∀ c, ks c = Layout.block ⟨4, ![2, 256, 4, 64]⟩ ⟨4, ![2, 4096, 4, 64]⟩ 1 16 c k)
    (hvs : ∀ c, vs c = Layout.block ⟨4, ![2, 256, 4, 64]⟩ ⟨4, ![2, 4096, 4, 64]⟩ 1 16 c v)
    (hx : ∀ c t, ((EReal.toReal (xs c t) : ℝ) : EReal) = xs c t) (hw : ∀ t, ((EReal.toReal (wq t) : ℝ) : EReal) = wq t)
    (hk : ∀ c t, ((EReal.toReal (ks c t) : ℝ) : EReal) = ks c t) (c : Fin 16) :
    Cert.KernelIdeal.Pass.result (F := Ideal) (fun d => Cert.KernelIdeal.Gen.k0_pay1 (F := Ideal) (ks d))
        (fun d => Cert.KernelIdeal.Gen.k0_pay3 (Cert.KernelIdeal.Gen.k0_pay2 (F := Ideal) (vs d))) (xs c) wq wo c
      = Layout.block ⟨3, ![2, 256, 512]⟩ ⟨3, ![2, 4096, 512]⟩ 1 16 c (Cert.ReferenceIdeal.Attn.out x wq k v wo) := by
  have hX : ∀ t, x t = ((EReal.toReal (x t) : ℝ) : EReal) := fun t => by
    obtain ⟨b, e, i, n, rfl⟩ := exists_rows t
    have := hx e (ix3 b i n)
    rw [hxs, block_rows] at this
    exact this.symm
  have hK : ∀ t, k t = ((EReal.toReal (k t) : ℝ) : EReal) := fun t => by
    obtain ⟨b, e, i, h, d, rfl⟩ := exists_heads t
    have := hk e (ix4 b i h d)
    rw [hks, block_heads] at this
    exact this.symm
  funext j
  obtain ⟨b, i, n, rfl⟩ : ∃ b i n, j = ix3 b i n := ⟨j 0, j 1, j 2, eq_ix3 j⟩
  rw [block_rows, Cert.ReferenceIdeal.Attn.out_apply x wq k v wo (fun t => (x t).toReal) (fun t => (wq t).toReal) (fun t => (k t).toReal) hX (fun t => (hw t).symm) hK]
  refine Cert.KernelIdeal.Pass.result_apply c _ _ _ _ wo (fun t => (x t).toReal) (fun t => (wq t).toReal) (fun t => (k t).toReal) v ?_ b i n
  refine ⟨fun b i t => ?_, fun t e => (hw _).symm, fun e b h d j => ?_, fun e b h d j => ?_⟩
  · rw [hxs, block_rows]; exact hX _
  · rw [Cert.KernelIdeal.Pass.keys_apply, hks, block_heads]; exact hK _
  · rw [Cert.KernelIdeal.Pass.values_apply, hvs, block_heads]

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Tie

@[expose] public section

noncomputable section

namespace Cert.Proof

open Idealize.ShloMosaic Idealize.SL.Sem

/-- The kernel at machine floats: every run ends, the arguments are unchanged, every semaphore is at zero. -/
theorem frame_kernel : Cert.quiescent_Kernel := fun m g _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Kernel.Pass.run_arrays (F := Bits) m g)

/-- The same of the kernel over the extended reals. -/
theorem frame_kernelIdeal : Cert.quiescent_KernelIdeal := fun m g _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Pass.run_arrays (F := Ideal) m g)

/-- The named constant reads −30 at machine floats and −∞ over the extended reals. -/
theorem preserves : Cert.preserves_Kernel_KernelIdeal := IdealRules.named_const.statement _ _ _ _ _ rfl

/-- The reference: every run ends with the arguments unchanged. -/
theorem frame_reference : Cert.quiescent_ReferenceIdeal := fun m g _ =>
  (θ_run Cert.ReferenceIdeal.defs _ _).mono (fun _ h => ⟨fun c => (h c).2, funext fun s => nomatch s.2⟩)
    (Cert.ReferenceIdeal.Value.run (F := Ideal) m g)

/-- On real activations, query weights and keys, cut into the devices' blocks, the kernel's devices end with the blocks of
    the result that the reference ends with. -/
theorem algebraic : Cert.algebraic_KernelIdeal_ReferenceIdeal_pre_finite_KernelIdeal (hPre_finite_KernelIdeal := Cert.Attention.finite_block_facts) := by
  intro m g m' g' hpre hblock
  have hfin := fun c => letI := Cert.Attention.finite_block_facts; Cert.Attention.finite_reads _ _ _ _ _ (hpre c)
  refine ⟨Cert.ReferenceIdeal.Value.res_main_v33 m' 0, ?_, ?_⟩
  · refine (θ_run Cert.KernelIdeal.defs _ _).mono (fun r h c => ?_) (Cert.KernelIdeal.Pass.run_arrays (F := Ideal) m g)
    obtain ⟨h0, h1, h2, h3, h4, hv⟩ := h.1 c
    refine ⟨hv.trans ?_, h0, h1, h2, h3, h4⟩
    have hw := (hfin c).2.1
    rw [(hblock c).2.1] at hw
    rw [Cert.ReferenceIdeal.Attn.res_eq]
    unfold Cert.KernelIdeal.Pass.outAt
    rw [Cert.KernelIdeal.Pass.wqAt_eq, Cert.KernelIdeal.Pass.woAt_eq, (hblock c).2.1, (hblock c).2.2.2.2]
    exact Cert.Attention.result_eq_block _ _ _ _ _ (Cert.KernelIdeal.Pass.xAt m) (Cert.KernelIdeal.Pass.kAt m) (Cert.KernelIdeal.Pass.vAt m)
      (fun d => (Cert.KernelIdeal.Pass.xAt_eq m d).trans (hblock d).1) (fun d => (Cert.KernelIdeal.Pass.kAt_eq m d).trans (hblock d).2.2.1)
      (fun d => (Cert.KernelIdeal.Pass.vAt_eq m d).trans (hblock d).2.2.2.1)
      (fun d => by rw [Cert.KernelIdeal.Pass.xAt_eq]; exact (hfin d).1) hw (fun d => by rw [Cert.KernelIdeal.Pass.kAt_eq]; exact (hfin d).2.2) c
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  Cert.Attention.finite_block_facts, Cert.Attention.finite_whole_facts, frame_kernel, frame_kernelIdeal,
  fun m g _ => frame_kernelIdeal m g trivial, frame_reference, fun m g _ => frame_reference m g trivial, preserves, algebraic⟩

end Cert.Proof

end
